-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x64 : Shape := ⟨2, ![1000000, 64]⟩
abbrev S1000000 : Shape := ⟨1, ![1000000]⟩
abbrev S_ : Shape := ⟨0, ![]⟩
abbrev S1048576 : Shape := ⟨1, ![1048576]⟩
abbrev S16x65536 : Shape := ⟨2, ![16, 65536]⟩
abbrev S64x1000000 : Shape := ⟨2, ![64, 1000000]⟩
abbrev S64x64 : Shape := ⟨2, ![64, 64]⟩
abbrev S1x64 : Shape := ⟨2, ![1, 64]⟩
abbrev S64x65536 : Shape := ⟨2, ![64, 65536]⟩
abbrev S1x65536 : Shape := ⟨2, ![1, 65536]⟩
abbrev S65536 : Shape := ⟨1, ![65536]⟩
abbrev S64 : Shape := ⟨1, ![64]⟩
abbrev S64x1 : Shape := ⟨2, ![64, 1]⟩

abbrev nBuf : Space → Nat
  | .hbm => 12
  | .vmem => 8
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S_, .i32⟩
  | .hbm, ⟨3, _⟩ => ⟨S_, .i32⟩
  | .hbm, ⟨4, _⟩ => ⟨S1048576, .i32⟩
  | .hbm, ⟨5, _⟩ => ⟨S16x65536, .i32⟩
  | .hbm, ⟨6, _⟩ => ⟨S64x1000000, .f32⟩
  | .hbm, ⟨7, _⟩ => ⟨S64x64, .i32⟩
  | .hbm, ⟨8, _⟩ => ⟨S1x64, .i32⟩
  | .hbm, ⟨9, _⟩ => ⟨S1x64, .i32⟩
  | .hbm, ⟨10, _⟩ => ⟨S64, .i32⟩
  | .hbm, ⟨11, _⟩ => ⟨S64, .i32⟩
  | .local _ .vmem, ⟨0, _⟩ => ⟨S64x65536, .f32⟩
  | .local _ .vmem, ⟨1, _⟩ => ⟨S64x65536, .f32⟩
  | .local _ .vmem, ⟨2, _⟩ => ⟨S16x65536, .i32⟩
  | .local _ .vmem, ⟨3, _⟩ => ⟨S64x64, .i32⟩
  | .local _ .vmem, ⟨4, _⟩ => ⟨S1x64, .i32⟩
  | .local _ .vmem, ⟨5, _⟩ => ⟨S1x64, .i32⟩
  | .local _ .vmem, ⟨6, _⟩ => ⟨S64x64, .f32⟩
  | .local _ .vmem, ⟨7, _⟩ => ⟨S64x65536, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v6 : Index := Scalar.indexCast arg0
  let c0_4 : Index := 0#32
  ![v6.toNat, 0]
def k0_cond2 (i : grid0.Coords) : BitVec 1 :=
  let arg0 : BitVec 32 := BitVec.ofNat 32 (i 0).val
  let c15_i32 : BitVec 32 := 15#32
  let v34 : BitVec 1 := Scalar.cmpi .eq arg0 c15_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x65536 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1000000x64 : Shape := ⟨2, ![1000000, 64]⟩
abbrev S1000000 : Shape := ⟨1, ![1000000]⟩
abbrev S_ : Shape := ⟨0, ![]⟩
abbrev S4097 : Shape := ⟨1, ![4097]⟩
abbrev S1000000x1 : Shape := ⟨2, ![1000000, 1]⟩
abbrev S4096 : Shape := ⟨1, ![4096]⟩
abbrev S64x64 : Shape := ⟨2, ![64, 64]⟩
abbrev S64 : Shape := ⟨1, ![64]⟩
abbrev S64x1 : Shape := ⟨2, ![64, 1]⟩
abbrev S64x2 : Shape := ⟨2, ![64, 2]⟩

abbrev nBuf : Space → Nat
  | .hbm => 72
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S1000000x64, .i32⟩
  | .hbm, ⟨3, _⟩ => ⟨S_, .f32⟩
  | .hbm, ⟨4, _⟩ => ⟨S_, .i32⟩
  | .hbm, ⟨5, _⟩ => ⟨S1000000, .f32⟩
  | .hbm, ⟨6, _⟩ => ⟨S1000000, .i32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S_, .i32⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S_, .i32⟩
  | .hbm, ⟨23, _⟩ => ⟨S4097, .i32⟩
  | .hbm, ⟨24, _⟩ => ⟨S_, .i32⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S_, .i32⟩
  | .hbm, ⟨37, _⟩ => ⟨S1000000, .i32⟩
  | .hbm, ⟨38, _⟩ => ⟨S4097, .i32⟩
  | .hbm, ⟨39, _⟩ => ⟨S4096, .i32⟩
  | .hbm, ⟨40, _⟩ => ⟨S64x64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S64, .i32⟩
  | .hbm, ⟨56, _⟩ => ⟨S64x1, .i32⟩
  | .hbm, ⟨57, _⟩ => ⟨S64x1, .i32⟩
  | .hbm, ⟨58, _⟩ => ⟨S64x2, .i32⟩
  | .hbm, ⟨59, _⟩ => ⟨S64, .i32⟩
  | .hbm, ⟨60, _⟩ => ⟨S64, .i32⟩
  | .hbm, ⟨61, _⟩ => ⟨S64, .i32⟩
  | .hbm, ⟨62, _⟩ => ⟨S64, .i32⟩
  | .hbm, ⟨63, _⟩ => ⟨S_, .i32⟩
  | .hbm, ⟨64, _⟩ => ⟨S64, .i32⟩
  | .hbm, ⟨65, _⟩ => ⟨S64, .i1⟩
  | .hbm, ⟨66, _⟩ => ⟨S_, .i32⟩
  | .hbm, ⟨67, _⟩ => ⟨S64, .i32⟩
  | .hbm, ⟨68, _⟩ => ⟨S64, .i32⟩
  | .hbm, ⟨69, _⟩ => ⟨S64, .i32⟩
  | .hbm, ⟨70, _⟩ => ⟨S64x1, .i32⟩
  | .hbm, ⟨71, _⟩ => ⟨S64, .i32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_c_4 : Ref sig .tc := ⟨.hbm, 24, rfl⟩
abbrev main_call2_v0 : Ref sig .tc := ⟨.hbm, 25, rfl⟩
abbrev main_call2_v1 : Ref sig .tc := ⟨.hbm, 26, rfl⟩
abbrev main_v11 : Ref sig .tc := ⟨.hbm, 27, rfl⟩
abbrev main_c_5 : Ref sig .tc := ⟨.hbm, 28, rfl⟩
abbrev main_v12 : Ref sig .tc := ⟨.hbm, 29, rfl⟩
abbrev main_v13 : Ref sig .tc := ⟨.hbm, 30, rfl⟩
abbrev main_c_6 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_7 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_v23 : Ref sig .tc := ⟨.hbm, 43, rfl⟩
abbrev main_v24 : Ref sig .tc := ⟨.hbm, 44, rfl⟩
abbrev main_c_9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_10 : Ref sig .tc := ⟨.hbm, 49, rfl⟩
abbrev main_v28 : Ref sig .tc := ⟨.hbm, 50, rfl⟩
abbrev main_v29 : Ref sig .tc := ⟨.hbm, 51, rfl⟩
abbrev main_c_11 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call3_v0 : Ref sig .tc := ⟨.hbm, 60, rfl⟩
abbrev main_call3_v1_0 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_c_13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Proof.KernelFrame.lean ====
/-
  The frame of the kernel on the machine's own floating-point words. The last block of scores overhangs its array, so
  the words past the array's end reach the contraction; nothing is claimed here of what the scratch buffers or the
  results hold — only that every execution ends, the arguments unchanged and every semaphore counter at zero.
-/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The conditions of the body's two conditionals. -/
abbrev isFirst (i : grid0.Coords) : Prop :=
  (Scalar.cmpi .ne (Scalar.extui (Scalar.cmpi .eq (BitVec.ofNat 32 (i 0).val) 0#32)) 0#32) = 1#1
abbrev isLast (i : grid0.Coords) : Prop := k0_cond2 i = 1#1

set_option maxHeartbeats 4000000 in
/-- At any point the body runs, and gives every buffer back: the inputs' as they were, the others at some contents. -/
theorem body (c : Dev nD) (i : grid0.Coords) (arg1 : Memref sig .tc .vmem S64x65536 .f32) (harg1 : arg1.IsWhole) (arg2 : Memref sig .tc .vmem S16x65536 .i32) (harg2 : arg2.IsWhole) (arg3 : Memref sig .tc .vmem S64x64 .i32) (harg3 : arg3.IsWhole) (arg4 : Memref sig .tc .vmem S1x64 .i32) (harg4 : arg4.IsWhole) (arg5 : Memref sig .tc .vmem S1x64 .i32) (harg5 : arg5.IsWhole) (arg6 : Memref sig .tc .vmem S64x64 .f32) (harg6 : arg6.IsWhole) (arg7 : Memref sig .tc .vmem S64x65536 .f32) (harg7 : arg7.IsWhole)
    (x0 : Vec F S64x65536 .f32) (x1 : Vec F S16x65536 .i32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) E (cc0__conf_kernel i arg1 harg1 arg2 harg2 arg3 harg3 arg4 harg4 arg5 harg5 arg6 harg6 arg7 harg7) K := by
  simp only [cc0__conf_kernel_eq_skeleton]; unfold cc0__conf_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
  obtain rfl := harg1.eq_unread hf0; obtain rfl := harg2.eq_unread hf1
  by_cases hc0 : isFirst i <;> by_cases hc1 : isLast i
  all_goals
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap
      · iexact H2
      ipureintro; exact rfl
    isplitl [H3]
    · iexists _, _; isplitr; swap
      · iexact H3
      ipureintro; exact rfl
    isplitl [H4]
    · iexists _, _; isplitr; swap
      · iexact H4
      ipureintro; exact rfl
    isplitl [HS0]
    · iexists _, _; isplitr; swap
      · iexact HS0
      ipureintro; exact rfl
    iexists _, _; isplitr; swap
    · iexact HS1
    ipureintro; exact rfl

variable (m : (ℓ : Loc nD τ sig) → Buf (Elt F) ℓ) (ρ : Dev nD → PrngReg)

/-- The two scratch buffers. -/
abbrev accBuf : Memref sig .tc .vmem S64x64 .f32 := Memref.whole cc0_scratch0
abbrev clsBuf : Memref sig .tc .vmem S64x65536 .f32 := Memref.whole cc0_scratch1

/-- The launch's own invariant is the two scratch buffers at some contents, and the generator register. -/
theorem launchInv_eq (c : Dev nD) :
    (Pipeline.ΦA spec0 c : sProp 𝕄)
      = iprop(iprop((∃ d, owns (c : Thread nD τ) accBuf fullShare d) ∗ (∃ d, owns (c : Thread nD τ) clsBuf fullShare d)) ∗ (∃ r, prngReg c r)) := by
  unfold Pipeline.ΦA; rw [scopedRest0_eq]; simp only [accBuf, clsBuf, owns_whole]; try rfl

/-- Point `t`'s block of the transposed scores, the columns past the array's end filled with zeros. -/
def scores (c : Dev nD) (t : Fin cfg0.N) : Vec F S64x65536 .f32 :=
  win0_0.fill (grid0.coords t) (fun _ => Scalar.ofBits .f32 0#32) (iblk m c 0 t)

/-- The proof data: the arrays as the region finds them, the inputs' buffers at their blocks, and nothing of the
    results' (whose windows are forgotten) or of the scratch buffers. -/
def dats (_ : Fin 1) (c : Dev nD) : Dat τ (Elt F) Unit ℕ (UR sig nD τ) ℕ cfg0 c where
  A w := V m c (Pipeline.arrRef spec0 w)
  after w t := match w with
    | ⟨0, _⟩ => scores m c t
    | ⟨1, _⟩ => iblk m c 1 t
    | ⟨2, _⟩ => fun _ => 0#32
    | ⟨3, _⟩ => fun _ => 0#32
    | ⟨4, _⟩ => fun _ => 0#32
  Φ _ := Pipeline.ΦA spec0 c
  q _ := fullShare
  owed _ := 0

/-- The windows nothing is claimed of: the three results'. -/
def forgotten : Fin 5 → Bool := fun w => decide (2 ≤ w.val)

theorem A_eq (c : Dev nD) (w : Fin cfg0.W) : (dats m 0 c).A w = V m c (Pipeline.arrRef spec0 w) := by
  dsimp only [dats]

theorem after_0 (c : Dev nD) (t : Fin cfg0.N) : (dats m 0 c).after 0 t = scores m c t := by dsimp only [dats]
theorem after_1 (c : Dev nD) (t : Fin cfg0.N) : (dats m 0 c).after 1 t = iblk m c 1 t := by dsimp only [dats]

/-- The scores' buffer arrives holding its block on the columns inside the array, anything past them. -/
theorem before_0 (c : Dev nD) (t : Fin cfg0.N) (d) :
    (dats m 0 c).before (0 : Fin 5) t d = win0_0.fill (grid0.coords t) d (iblk m c 0 t) := by
  unfold Dat.before; rw [if_pos (fetch0_0 t)]; rfl

/-- The targets' buffer holds the whole padded array throughout. -/
theorem before_1 (c : Dev nD) (t : Fin cfg0.N) (d) : (dats m 0 c).before 1 t d = iblk m c 1 t :=
  before0_1_of m (dats m 0 c) (A_eq m c 1) (after_1 m c) t d

/-- The columns inside the array of what the scores' buffer is stated to hold are the block. -/
theorem cut_scores (c : Dev nD) (t : Fin cfg0.N) : win0_0.cut (grid0.coords t) (scores m c t) = iblk m c 0 t :=
  win0_0.cut_fill _ _ _

/-- The body's row of the table of procedures, at a point's buffers. -/
theorem row_eq (t : Fin cfg0.N) :
    defs₀ (F := F) .tc cfg0.body (cfg0.bodyArgs t (cfg0.slots t)) = bodyAt0 t := by
  unfold defs₀; rw [Defs.onTc_tc]

set_option maxHeartbeats 4000000 in
/-- What the pipeline asks of the body, the results' windows forgotten. -/
theorem obligation (c : Dev nD) :
    BodyObligationLoose (dats m 0 c) (defs₀ (F := F)) Variants.none () Set.univ forgotten := fun t => by
  rw [bigSep_W0, bigSep_W0, row_eq]
  rw [show forgotten 0 = false from rfl, show forgotten 1 = false from rfl, show forgotten 2 = true from rfl,
    show forgotten 3 = true from rfl, show forgotten 4 = true from rfl]
  simp only
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl,
    launchInv_eq]
  have h0 : ∀ d, (dats m 0 c).before (0 : Fin 5) t d = win0_0.fill (grid0.coords t) d (iblk m c 0 t) := before_0 m c t
  have h1 : ∀ d, (dats m 0 c).before (1 : Fin 5) t d = iblk m c 1 t := before_1 m c t
  have hc : (win0 0).cut (grid0.coords t) ((dats m 0 c).after (0 : Fin 5) t) = iblk m c 0 t := by
    rw [after_0]; exact cut_scores m c t
  simp only [h0, h1, hc, after_1]
  iintro ⟨⟨⟨HS0, HS1⟩, Hg⟩, Ho, ⟨%d0, H0⟩, ⟨%d1, H1⟩, H2, H3, H4⟩
  iapply (body c (grid0.coords t) _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexists d0; iexact H0
  isplitl [H1]; · iexact H1
  isplitl [H2]; · iexact H2
  isplitl [H3]; · iexact H3
  iexact H4

/-- The buffers the lines after the region write: the two reshaped results. -/
def written : Finset (Ref sig .tc) := {main_v4, main_v5}

/-- Those lines write nothing else. -/
theorem sfx_written : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.reshape_writes, Finset.mem_singleton] at hb
    have hb' := Proc.devRef_injective .tc hb
    subst hb'
    decide

-- the launch theorem's implicit arguments are found by unifying its conclusion with this one
set_option backward.isDefEq.respectTransparency.types false in
set_option maxHeartbeats 800000 in
/-- The launch, saying nothing of the results. -/
theorem run : θ_run defs (onTc (τ := τ) (main (F := F))) (s₀ m ρ)
    (fun r => (RDat.FramePostR cfg0 (fun c => (dats m 0 c).toRForget forgotten) written (fun c b => V0 m c (Proc.devRef .tc b))) r ∧ r.2.sem = fun _ => 0) :=
  Pipeline.θ_run_frame_around_T_forget (Q' := _) cfgs (dats m) (0 : Fin 1) launch0 defs₀ Variants.none forgotten written m ρ main
    (hbody := obligation m) (hshare := fun c => (dats m 0 c).share_full fun _ => rfl)
    (howed := fun _ _ => rfl) (V₀ := V0 m) (opss := [hostOps1]) (hsub := sfx_sub) (hfresh := sfx_fresh) (hkeep := sfx_keeps)
    (hT := sfx_written) (hmain := hmain m Variants.none) (hA := A_eq m) (hΦ := fun _ _ => rfl)

/-- The frame: every execution ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c)⟩,
    h.2⟩) (run m ρ)

end Cert.KernelFrame
-- ==== Proof.IdealBody.lean ====
/-
  One point of the kernel: what the body leaves in each buffer it stores into, as a function of what it found
  there. Three kinds of point — the first (which also fills the two scratch buffers), the ones in between, and the
  last (which also writes the three results) — and one theorem for each.
-/
module

public import proofs.«01_k».proof.Proof.Gen.KernelIdeal.Frame
public import proofs.«01_k».proof.Proof.Gen.KernelIdeal.Skeleton
public import Idealize.ShloMosaic.Lib.Pipeline.Value
public import Idealize.ShloMosaic.Lib.VecWindow

@[expose] public section

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's first conditional: the point is the first. -/
abbrev isFirst (i : grid0.Coords) : Prop :=
  (Scalar.cmpi .ne (Scalar.extui (Scalar.cmpi .eq (BitVec.ofNat 32 (i 0).val) 0#32)) 0#32) = 1#1

/-- The condition of its second: the point is the last. -/
abbrev isLast (i : grid0.Coords) : Prop := k0_cond2 i = 1#1

/-- The row of targets point `i` loads. -/
abbrev trow (i : grid0.Coords) (x1 : Vec F S16x65536 .i32) : Vec F S1x65536 .i32 :=
  View.ld x1 (Rect.unit (s := S16x65536) (k0_off1 i) S1x65536.size (k0_off1_inb i))

/-- A load of a whole two-axis buffer reads its contents. -/
theorem ld_all {a b : ℕ} {Val : EltTy → Type} {e : EltTy} (inb : ∀ k, (![0, 0] : Fin 2 → ℕ) k + (![a, b] : Fin 2 → ℕ) k ≤ (⟨2, ![a, b]⟩ : Shape).size k)
    (X : (⟨2, ![a, b]⟩ : Shape).Idx → Val e) : View.ld X (Rect.unit (s := ⟨2, ![a, b]⟩) ![0, 0] ![a, b] inb) = X :=
  View.ld_unit_zero (S := ⟨2, ![a, b]⟩) (funext fun k => by fin_cases k <;> rfl) inb X

/-- A store to a whole two-axis buffer leaves its payload. -/
theorem stored_all {a b : ℕ} {sp : Space} {e : EltTy} (v : View sig .tc sp ⟨2, ![a, b]⟩ e) (f : v.ty.Contents (Elt F))
    (inb : ∀ k, (![0, 0] : Fin 2 → ℕ) k + (![a, b] : Fin 2 → ℕ) k ≤ (⟨2, ![a, b]⟩ : Shape).size k)
    (w : (⟨2, ![a, b]⟩ : Shape).Idx → Elt F e) (L : List (View.Piece (Elt F) ⟨2, ![a, b]⟩ e)) :
    v.read (Elt F) (v.writes (Elt F) f (⟨Rect.unit (s := ⟨2, ![a, b]⟩) ![0, 0] ![a, b] inb, w⟩ :: L)) = w :=
  View.read_writes_full v f inb w L

/-- A load of a whole two-axis buffer after such a store reads the payload. -/
theorem loaded_all {a b : ℕ} {sp : Space} {e : EltTy} (v : View sig .tc sp ⟨2, ![a, b]⟩ e)
    (inb inb' : ∀ k, (![0, 0] : Fin 2 → ℕ) k + (![a, b] : Fin 2 → ℕ) k ≤ (⟨2, ![a, b]⟩ : Shape).size k)
    (w : (⟨2, ![a, b]⟩ : Shape).Idx → Elt F e) (L : List (View.Piece (Elt F) ⟨2, ![a, b]⟩ e)) :
    v.readCov (⟨Rect.unit (s := ⟨2, ![a, b]⟩) ![0, 0] ![a, b] inb', w⟩ :: L) (Rect.unit (s := ⟨2, ![a, b]⟩) ![0, 0] ![a, b] inb).toLoadRect = w :=
  View.readCov_full v inb inb' w L

/-- At the first point the accumulator ends holding the point's block counted from zero, the class scratch the row
    numbers, and the results' buffers what they held. -/
theorem body_first (c : Dev nD) (i : grid0.Coords) (arg1 : Memref sig .tc .vmem S64x65536 .f32) (harg1 : arg1.IsWhole) (arg2 : Memref sig .tc .vmem S16x65536 .i32) (harg2 : arg2.IsWhole) (arg3 : Memref sig .tc .vmem S64x64 .i32) (harg3 : arg3.IsWhole) (arg4 : Memref sig .tc .vmem S1x64 .i32) (harg4 : arg4.IsWhole) (arg5 : Memref sig .tc .vmem S1x64 .i32) (harg5 : arg5.IsWhole) (arg6 : Memref sig .tc .vmem S64x64 .f32) (harg6 : arg6.IsWhole) (arg7 : Memref sig .tc .vmem S64x65536 .f32) (harg7 : arg7.IsWhole)
    (hc0 : isFirst i) (hc1 : ¬isLast i) (x0 : Vec F S64x65536 .f32) (x1 : Vec F S16x65536 .i32)
    (x2 : Vec F S64x64 .i32) (x3 x4 : Vec F S1x64 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay12 k0_pay11 x0 (trow i x1) k0_pay10) ∗ owns (c : Thread nD τ) arg7 fullShare k0_pay11) -∗ K ⟨⟩))
      ⊢ wp frame (wpE (defs₀ (F := F)) Variants.none c none) E (cc0__conf_kernel i arg1 harg1 arg2 harg2 arg3 harg3 arg4 harg4 arg5 harg5 arg6 harg6 arg7 harg7) K := by
  simp only [cc0__conf_kernel_eq_skeleton]; unfold cc0__conf_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    delta body_first.sl.v3
    delta body_first.sl.v28
    delta body_first.sl.HS0_1
    delta body_first.sl.HS1_1
    simp only [stored_all, loaded_all, ld_all, View.readAt_eq_ld, Memref.IsWhole.read_unread]
  iexists _; isplitr
  swap; · iexact HS1
  ipureintro
  delta body_first.sl.HS1_1
  simp only [stored_all, loaded_all, ld_all, View.readAt_eq_ld, Memref.IsWhole.read_unread]

/-- Between the first point and the last the accumulator ends holding what it held plus the point's block's counts,
    and nothing else changes. -/
theorem body_mid (c : Dev nD) (i : grid0.Coords) (arg1 : Memref sig .tc .vmem S64x65536 .f32) (harg1 : arg1.IsWhole) (arg2 : Memref sig .tc .vmem S16x65536 .i32) (harg2 : arg2.IsWhole) (arg3 : Memref sig .tc .vmem S64x64 .i32) (harg3 : arg3.IsWhole) (arg4 : Memref sig .tc .vmem S1x64 .i32) (harg4 : arg4.IsWhole) (arg5 : Memref sig .tc .vmem S1x64 .i32) (harg5 : arg5.IsWhole) (arg6 : Memref sig .tc .vmem S64x64 .f32) (harg6 : arg6.IsWhole) (arg7 : Memref sig .tc .vmem S64x65536 .f32) (harg7 : arg7.IsWhole)
    (hc0 : ¬isFirst i) (hc1 : ¬isLast i) (x0 : Vec F S64x65536 .f32) (x1 : Vec F S16x65536 .i32)
    (x2 : Vec F S64x64 .i32) (x3 x4 : Vec F S1x64 .i32) (xa : Vec F S64x64 .f32) (xc : Vec F S64x65536 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xa ∗ owns (c : Thread nD τ) arg7 fullShare xc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay12 xc x0 (trow i x1) xa) ∗ owns (c : Thread nD τ) arg7 fullShare xc) -∗ K ⟨⟩))
      ⊢ wp frame (wpE (defs₀ (F := F)) Variants.none c none) E (cc0__conf_kernel i arg1 harg1 arg2 harg2 arg3 harg3 arg4 harg4 arg5 harg5 arg6 harg6 arg7 harg7) K := by
  simp only [cc0__conf_kernel_eq_skeleton]; unfold cc0__conf_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    simp only [stored_all, loaded_all, ld_all, View.readAt_eq_ld, Memref.IsWhole.read_unread]
  iexists _; isplitr; · ipureintro; exact harg7.read_unread _
  iexact HS1

/-- At the last point the accumulator takes the point's block too, and the three results are computed from it. -/
theorem body_last (c : Dev nD) (i : grid0.Coords) (arg1 : Memref sig .tc .vmem S64x65536 .f32) (harg1 : arg1.IsWhole) (arg2 : Memref sig .tc .vmem S16x65536 .i32) (harg2 : arg2.IsWhole) (arg3 : Memref sig .tc .vmem S64x64 .i32) (harg3 : arg3.IsWhole) (arg4 : Memref sig .tc .vmem S1x64 .i32) (harg4 : arg4.IsWhole) (arg5 : Memref sig .tc .vmem S1x64 .i32) (harg5 : arg5.IsWhole) (arg6 : Memref sig .tc .vmem S64x64 .f32) (harg6 : arg6.IsWhole) (arg7 : Memref sig .tc .vmem S64x65536 .f32) (harg7 : arg7.IsWhole)
    (hc0 : ¬isFirst i) (hc1 : isLast i) (x0 : Vec F S64x65536 .f32) (x1 : Vec F S16x65536 .i32)
    (x2 : Vec F S64x64 .i32) (x3 x4 : Vec F S1x64 .i32) (xa : Vec F S64x64 .f32) (xc : Vec F S64x65536 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xa ∗ owns (c : Thread nD τ) arg7 fullShare xc
        ∗ (iprop(owns (c : Thread nD τ) arg1 fullShare x0 ∗ owns (c : Thread nD τ) arg2 fullShare x1 ∗ owns (c : Thread nD τ) arg3 fullShare (k0_pay2 (k0_pay12 xc x0 (trow i x1) xa)) ∗ owns (c : Thread nD τ) arg4 fullShare (k0_pay1 (k0_pay9 (k0_pay12 xc x0 (trow i x1) xa))) ∗ owns (c : Thread nD τ) arg5 fullShare (k0_pay8 (k0_pay12 xc x0 (trow i x1) xa))
            ∗ owns (c : Thread nD τ) arg6 fullShare (k0_pay12 xc x0 (trow i x1) xa) ∗ owns (c : Thread nD τ) arg7 fullShare xc) -∗ K ⟨⟩))
      ⊢ wp frame (wpE (defs₀ (F := F)) Variants.none c none) E (cc0__conf_kernel i arg1 harg1 arg2 harg2 arg3 harg3 arg4 harg4 arg5 harg5 arg6 harg6 arg7 harg7) K := by
  simp only [cc0__conf_kernel_eq_skeleton]; unfold cc0__conf_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    delta body_last.sl.v37
    delta body_last.sl.HS0_1
    simp only [stored_all, loaded_all, ld_all, View.readAt_eq_ld, Memref.IsWhole.read_unread]
  isplitl [H3]
  · iexists _; isplitr
    swap; · iexact H3
    ipureintro
    delta body_last.sl.r
    delta body_last.sl.v37
    delta body_last.sl.HS0_1
    simp only [stored_all, loaded_all, ld_all, View.readAt_eq_ld, Memref.IsWhole.read_unread]
  isplitl [H4]
  · iexists _; isplitr
    swap; · iexact H4
    ipureintro
    delta body_last.sl.v37
    delta body_last.sl.HS0_1
    simp only [stored_all, loaded_all, ld_all, View.readAt_eq_ld, Memref.IsWhole.read_unread]
  isplitl [HS0]
  · iexists _; isplitr
    swap; · iexact HS0
    ipureintro
    delta body_last.sl.HS0_1
    simp only [stored_all, loaded_all, ld_all, View.readAt_eq_ld, Memref.IsWhole.read_unread]
  iexists _; isplitr; · ipureintro; exact harg7.read_unread _
  iexact HS1

end Cert.IdealRun
-- ==== Proof.IdealRun.lean ====
/-
  The whole launch, for values whose contraction ignores the padded columns: what the accumulator holds after each
  point, that the pipeline's bookkeeping goes through, and what the three results and the arguments hold at the end.
-/
module

public import proofs.«01_k».proof.Proof.IdealBody
public import Idealize.ShloMosaic.Lib.Claim

@[expose] public section

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- Point `t`'s coordinate is `t`. -/
theorem coord_eq (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-- The first conditional is taken at the first point only. -/
theorem isFirst_iff (t : Fin cfg0.N) : isFirst (grid0.coords t) ↔ t.val = 0 := by
  have ht : t.val < 16 := Nat.lt_of_lt_of_eq t.isLt N_0
  simp only [isFirst, coord_eq]
  word_cmp

/-- The second conditional is taken at the last point only. -/
theorem isLast_iff (t : Fin cfg0.N) : isLast (grid0.coords t) ↔ t.val = 15 := by
  have ht : t.val < 16 := Nat.lt_of_lt_of_eq t.isLt N_0
  simp only [isLast, k0_cond2, coord_eq]
  word_cmp

/-- The three results' windows are idle exactly where the second conditional is not taken. -/
theorem idle_of_not_last (w : Fin cfg0.W) (hw : 2 ≤ w.val) (t : Fin cfg0.N) (h : ¬isLast (grid0.coords t)) :
    cfg0.idle w (grid0.coords t) = true := by
  have hh : (!(k0_cond2 (grid0.coords t) == 1#1)) = true := by simpa [isLast] using h
  match w, hw with
  | ⟨2, _⟩, _ => exact hh
  | ⟨3, _⟩, _ => exact hh
  | ⟨4, _⟩, _ => exact hh

/-- And live where it is. -/
theorem live_of_last (w : Fin cfg0.W) (hw : 2 ≤ w.val) (t : Fin cfg0.N) (h : isLast (grid0.coords t)) :
    cfg0.idle w (grid0.coords t) = false := by
  have hh : (!(k0_cond2 (grid0.coords t) == 1#1)) = false := by simpa [isLast] using h
  match w, hw with
  | ⟨2, _⟩, _ => exact hh
  | ⟨3, _⟩, _ => exact hh
  | ⟨4, _⟩, _ => exact hh

/-- They are written back at the last point only. -/
theorem flush_iff (w : Fin cfg0.W) (hw : 2 ≤ w.val) (t : Fin cfg0.N) : (cfg0.win w).flush t = true ↔ t.val = 15 := by
  have ht : t.val < 16 := Nat.lt_of_lt_of_eq t.isLt N_0
  have key : (cfg0.win w).flush t = true ↔ t.val % 16 = 15 := by
    match w, hw with
    | ⟨2, _⟩, _ => exact flush0_2 t
    | ⟨3, _⟩, _ => exact flush0_3 t
    | ⟨4, _⟩, _ => exact flush0_4 t
  rw [key]; omega

/-! ## What the accumulator holds -/

/-- Point `t`'s block of the transposed scores, the columns past the array's end filled with zeros. -/
def scores (c : Dev nD) (t : Fin cfg0.N) : Vec F S64x65536 .f32 :=
  win0_0.fill (grid0.coords t) (fun _ => Scalar.ofBits .f32 0#32) (iblk m c 0 t)

/-- Point `t`'s row of targets. -/
def targets (c : Dev nD) (t : Fin cfg0.N) : Vec F S1x65536 .i32 := trow (grid0.coords t) (iblk m c 1 t)

/-- The accumulator after the point at position `n`. -/
def accAt (c : Dev nD) : (n : ℕ) → n < cfg0.N → Vec F S64x64 .f32
  | 0, h => k0_pay12 k0_pay11 (scores m c ⟨0, h⟩) (targets m c ⟨0, h⟩) k0_pay10
  | n + 1, h => k0_pay12 k0_pay11 (scores m c ⟨n + 1, h⟩) (targets m c ⟨n + 1, h⟩) (accAt c n (Nat.lt_of_succ_lt h))

/-- What a point adds to the accumulator does not depend on the words past the array's end. -/
def PaddingIgnored : Prop := ∀ (c : Dev nD) (t : Fin cfg0.N) (d : Vec F S64x65536 .f32) (a : Vec F S64x64 .f32),
  k0_pay12 k0_pay11 (win0_0.fill (grid0.coords t) d (iblk m c 0 t)) (targets m c t) a
    = k0_pay12 k0_pay11 (scores m c t) (targets m c t) a

/-! ## The pipeline's proof data -/

/-- Each window's current buffer at point `t`, and its wholeness. -/
abbrev buf0 (t : Fin cfg0.N) : Memref sig .tc .vmem S64x65536 .f32 := win0_0.stage (cfg0.slots t 0)
abbrev buf1 (t : Fin cfg0.N) : Memref sig .tc .vmem S16x65536 .i32 := win0_1.stage (cfg0.slots t 1)
abbrev buf2 (t : Fin cfg0.N) : Memref sig .tc .vmem S64x64 .i32 := win0_2.stage (cfg0.slots t 2)
abbrev buf3 (t : Fin cfg0.N) : Memref sig .tc .vmem S1x64 .i32 := win0_3.stage (cfg0.slots t 3)
abbrev buf4 (t : Fin cfg0.N) : Memref sig .tc .vmem S1x64 .i32 := win0_4.stage (cfg0.slots t 4)

/-- The two scratch buffers: the accumulator and the class numbers. -/
abbrev accBuf : Memref sig .tc .vmem S64x64 .f32 := Memref.whole cc0_scratch0
abbrev clsBuf : Memref sig .tc .vmem S64x65536 .f32 := Memref.whole cc0_scratch1

/-- The launch's own invariant is the two scratch buffers at some contents, and the generator register. -/
theorem launchInv_eq (c : Dev nD) :
    (Pipeline.ΦA spec0 c : sProp 𝕄)
      = iprop(iprop((∃ d, owns (c : Thread nD τ) accBuf fullShare d) ∗ (∃ d, owns (c : Thread nD τ) clsBuf fullShare d)) ∗ (∃ r, prngReg c r)) := by
  unfold Pipeline.ΦA; rw [scopedRest0_eq]; simp only [accBuf, clsBuf, owns_whole]; try rfl

/-- The invariant before position `n`: at first the launch's; then the accumulator at what the point before left and
    the class numbers in place. -/
def inv (c : Dev nD) : (n : ℕ) → n ≤ cfg0.N → sProp 𝕄
  | 0, _ => Pipeline.ΦA spec0 c
  | n + 1, h => iprop(iprop(owns (c : Thread nD τ) accBuf fullShare (accAt m c n h) ∗ owns (c : Thread nD τ) clsBuf fullShare (k0_pay11 (F := F))) ∗ (∃ r, prngReg c r))

/-- The proof data: the arrays as the region finds them; after a point the inputs' buffers at their blocks and the
    results' at what the accumulator then gives (which matters at the last point only). -/
def dats (_ : Fin 1) (c : Dev nD) : Dat τ (Elt F) Unit ℕ (UR sig nD τ) ℕ cfg0 c where
  A w := V m c (Pipeline.arrRef spec0 w)
  after w t := match w with
    | ⟨0, _⟩ => scores m c t
    | ⟨1, _⟩ => iblk m c 1 t
    | ⟨2, _⟩ => k0_pay2 (accAt m c t.val t.isLt)
    | ⟨3, _⟩ => k0_pay1 (k0_pay9 (accAt m c t.val t.isLt))
    | ⟨4, _⟩ => k0_pay8 (accAt m c t.val t.isLt)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = scores m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay2 (accAt m c t.val t.isLt) := by dsimp only [dats]
theorem after_3 (c : Dev nD) (t : Fin cfg0.N) : (dats m 0 c).after 3 t = k0_pay1 (k0_pay9 (accAt m c t.val t.isLt)) := by dsimp only [dats]
theorem after_4 (c : Dev nD) (t : Fin cfg0.N) : (dats m 0 c).after 4 t = k0_pay8 (accAt m c t.val t.isLt) := by dsimp only [dats]

/-- The scores' buffer arrives holding its block on the columns inside the array, anything past them. -/
theorem before_0 (c : Dev nD) (t : Fin cfg0.N) (d) :
    (dats m 0 c).before (0 : Fin 5) t d = win0_0.fill (grid0.coords t) d (iblk m c 0 t) := by
  unfold Dat.before; rw [if_pos (fetch0_0 t)]; rfl

/-- The targets' buffer holds the whole padded array throughout. -/
theorem before_1 (c : Dev nD) (t : Fin cfg0.N) (d) : (dats m 0 c).before 1 t d = iblk m c 1 t :=
  before0_1_of m (dats m 0 c) (A_eq m c 1) (after_1 m c) t d

/-- The columns inside the array of what the scores' buffer is stated to hold are the block. -/
theorem cut_scores (c : Dev nD) (t : Fin cfg0.N) : win0_0.cut (grid0.coords t) (scores m c t) = iblk m c 0 t :=
  win0_0.cut_fill _ _ _

/-! ## The body obligation -/

theorem inv_castSucc (c : Dev nD) (t : Fin cfg0.N) :
    (dats m 0 c).Φ t.castSucc = inv m c t.val (Nat.le_of_lt t.isLt) := by
  dsimp only [dats]; exact Pipeline.Dat.Φ_castSucc (inv m c) t

/-- The body's row of the table of procedures, at a point's buffers. -/
theorem row_eq (t : Fin cfg0.N) :
    defs₀ (F := F) .tc cfg0.body (cfg0.bodyArgs t (cfg0.slots t)) = bodyAt0 t := by
  unfold defs₀; rw [Defs.onTc_tc]

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(iprop(owns (c : Thread nD τ) accBuf fullShare (accAt m c (n - 1) (by omega)) ∗ owns (c : Thread nD τ) clsBuf fullShare (k0_pay11 (F := F))) ∗ (∃ r, prngReg c r)) := by
  cases n with
  | zero => exact absurd rfl hz
  | succ n => rfl

theorem inv_succ (c : Dev nD) (n : ℕ) (h : n < cfg0.N) :
    inv m c (n + 1) h = iprop(iprop(owns (c : Thread nD τ) accBuf fullShare (accAt m c n h) ∗ owns (c : Thread nD τ) clsBuf fullShare (k0_pay11 (F := F))) ∗ (∃ r, prngReg c r)) := rfl

theorem accAt_zero (c : Dev nD) (t : Fin cfg0.N) (hz : t.val = 0) :
    accAt m c t.val t.isLt = k0_pay12 k0_pay11 (scores m c t) (targets m c t) k0_pay10 := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt = k0_pay12 k0_pay11 (scores m c t) (targets m c t) (accAt m c (t.val - 1) (by omega)) := by
  obtain ⟨n, hn⟩ := t
  cases n with
  | zero => exact absurd rfl hz
  | succ n => rfl

set_option maxHeartbeats 4000000 in
/-- What the pipeline asks of the body, at every point: by the kind of point, the body's theorem for it. -/
theorem obligation (hp : PaddingIgnored m) (c : Dev nD) :
    BodyObligationLoose (dats m 0 c) (defs₀ (F := F)) Variants.none () Set.univ := fun t => by
  rw [bigSep_W0, bigSep_W0, row_eq]
  simp only
  rw [show (dats m 0 c).owesAt () t.succ = (dats m 0 c).owesAt () t.castSucc from rfl, inv_castSucc]
  rw [show (dats m 0 c).Φ t.succ = inv m c (t.val + 1) t.isLt from rfl, inv_succ]
  have hN : t.val < 16 := Nat.lt_of_lt_of_eq t.isLt N_0
  have h0 : ∀ d, (dats m 0 c).before (0 : Fin 5) t d = win0_0.fill (grid0.coords t) d (iblk m c 0 t) := before_0 m c t
  have h1 : ∀ d, (dats m 0 c).before (1 : Fin 5) t d = iblk m c 1 t := before_1 m c t
  have hc : (win0 0).cut (grid0.coords t) ((dats m 0 c).after (0 : Fin 5) t) = iblk m c 0 t := by
    rw [after_0]; exact cut_scores m c t
  simp only [h0, h1, hc, after_1, after_2, after_3, after_4]
  by_cases hl : t.val = 15
  · -- the last point
    have hz : t.val ≠ 0 := by omega
    have hlast : isLast (grid0.coords t) := (isLast_iff t).mpr hl
    have hfirst : ¬isFirst (grid0.coords t) := fun h => hz ((isFirst_iff t).mp h)
    rw [show idle0 2 (grid0.coords t) = false from live_of_last 2 (by decide) t hlast]
    simp only
    rw [inv_pos m c _ _ hz, accAt_pos m c t hz]
    iintro ⟨⟨⟨HS0, HS1⟩, Hg⟩, Ho, ⟨%d0, H0⟩, ⟨%d1, H1⟩, ⟨%d2, H2⟩, ⟨%d3, H3⟩, ⟨%d4, H4⟩⟩
    rw [← hp c t d0]
    iapply (body_last c (grid0.coords t) _ _ _ _ _ _ _ _ _ _ _ _ _ _ hfirst hlast _ _ _ _ _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexists d0; iexact H0
    isplitl [H1]; · iexact H1
    isplitl [H2]; · iexact H2
    isplitl [H3]; · iexact H3
    iexact H4
  · have hlast : ¬isLast (grid0.coords t) := fun h => hl ((isLast_iff t).mp h)
    have hf : ∀ w : Fin cfg0.W, 2 ≤ w.val → (cfg0.win w).flush t = false := fun w hw => by
      rw [Bool.eq_false_iff]; exact fun h => hl ((flush_iff w hw t).mp h)
    rw [show idle0 2 (grid0.coords t) = true from idle_of_not_last 2 (by decide) t hlast,
      show (win0 2).flush t = false from hf 2 (by decide), show (win0 3).flush t = false from hf 3 (by decide),
      show (win0 4).flush t = false from hf 4 (by decide)]
    simp only
    by_cases hz : t.val = 0
    · -- the first
      have hfirst : isFirst (grid0.coords t) := (isFirst_iff t).mpr hz
      rw [inv_zero m c _ _ hz, launchInv_eq, accAt_zero m c t hz]
      iintro ⟨⟨⟨HS0, HS1⟩, Hg⟩, Ho, ⟨%d0, H0⟩, ⟨%d1, H1⟩, ⟨%d2, H2⟩, ⟨%d3, H3⟩, ⟨%d4, H4⟩⟩
      rw [← hp c t d0]
      iapply (body_first c (grid0.coords t) _ _ _ _ _ _ _ _ _ _ _ _ _ _ hfirst hlast _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexists d2; iexact H2
      isplitl [H3]; · iexists d3; iexact H3
      iexists d4; iexact H4
    · -- one in between
      have hfirst : ¬isFirst (grid0.coords t) := fun h => hz ((isFirst_iff t).mp h)
      rw [inv_pos m c _ _ hz, accAt_pos m c t hz]
      iintro ⟨⟨⟨HS0, HS1⟩, Hg⟩, Ho, ⟨%d0, H0⟩, ⟨%d1, H1⟩, ⟨%d2, H2⟩, ⟨%d3, H3⟩, ⟨%d4, H4⟩⟩
      rw [← hp c t d0]
      iapply (body_mid c (grid0.coords t) _ _ _ _ _ _ _ _ _ _ _ _ _ _ hfirst hlast _ _ _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexists d2; iexact H2
      isplitl [H3]; · iexists d3; iexact H3
      iexists d4; iexact H4

/-! ## The launch -/

/-- What the launch hands the region is the invariant before the first point. -/
theorem inv_in (c : Dev nD) : Pipeline.ΦA spec0 c ⊢ (dats m 0 c).Φ 0 := by
  rw [show (dats m 0 c).Φ 0 = inv m c 0 (Nat.zero_le _) from rfl, inv_zero m c 0 _ rfl]

/-- After the last point the invariant gives it back, the scratch buffers' contents forgotten. -/
theorem inv_out (c : Dev nD) : (dats m 0 c).Φ (Fin.last cfg0.N) ⊢ Pipeline.ΦA spec0 c := by
  rw [show (dats m 0 c).Φ (Fin.last cfg0.N) = inv m c cfg0.N le_rfl from rfl,
    inv_pos m c _ _ (by rw [show cfg0.N = 16 from N_0]; decide), launchInv_eq]
  iintro ⟨⟨HS0, HS1⟩, Hg⟩
  isplitl [HS0 HS1]
  · isplitl [HS0]
    · iexists _; iexact HS0
    iexists _; iexact HS1
  iexact Hg

-- the launch theorem's implicit arguments are found by unifying its conclusion with this one
set_option backward.isDefEq.respectTransparency.types false in
set_option maxHeartbeats 800000 in
/-- The launch: every execution ends, with the pipeline's arrays at what the proof data computes, every other buffer
    as the lines after the region leave it, and every semaphore counter at zero. -/
theorem run (hp : PaddingIgnored m) : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := obligation m hp) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: the arguments end unchanged and every semaphore counter at zero. -/
theorem frame (hp : PaddingIgnored m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ hp)))
    ((θ_run defs _ _).mono (fun _ h => h.2) (run m ρ hp))

end Cert.IdealRun
-- ==== Proof.Inputs.lean ====
/-
  What a grid point reads, at coordinates. Point `t` covers the samples from `65536 t` on, as many as a block holds: its
  block of the transposed scores has each such sample's scores down a column, and its row of the padded targets has each
  sample's target, and `-1` past the last sample.
-/
module

public import proofs.«01_k».proof.Proof.IdealRun
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Inputs

open Cert.KernelIdeal Cert.KernelIdeal.Gen Cert.IdealRun
open Idealize.ShloMosaic Idealize.ShloMosaic.TcCoe Idealize.ShloMosaic.StableHlo

variable {F : FTy → Type} [FloatOps F]
variable (m : (ℓ : Loc nD τ sig) → Buf (Elt F) ℓ)

/-- The scores' window at point `t` is block column `t` … -/
theorem index_scores : ∀ t : Fin cfg0.N, win0_0.index t = ![0, t.val] :=
  (by decide +kernel : ∀ t : Fin grid0.N, _)

/-- … of which the part inside the array is as wide as the samples left. -/
theorem width_scores : ∀ t : Fin cfg0.N, win0_0.xsize (grid0.coords t) = ![64, min 65536 (1000000 - 65536 * t.val)] :=
  (by decide +kernel : ∀ t : Fin grid0.N, _)

theorem index_targets : ∀ t : Fin cfg0.N, win0_1.index t = ![0, 0] :=
  (by decide +kernel : ∀ t : Fin grid0.N, _)

/-- Point `t` takes row `t` of the targets. -/
theorem offset_targets : ∀ t : Fin cfg0.N, k0_off1 (grid0.coords t) 0 = t.val :=
  (by decide +kernel : ∀ t : Fin grid0.N, _)

/-- The scores as the kernel reads them: transposed. -/
theorem transposed_at (c : Dev nD) (k : Fin 64) (n : Fin 1000000) :
    (V m c main_v2 : S64x1000000.Idx → F .f32) (ix2 k n) = (m ((c : Thread nD τ).loc main_arg0) : S1000000x64.Idx → F .f32) (ix2 n k) := by
  unfold V V0
  after_reads_at

/-- The targets as the kernel reads them: padded with `-1` and laid out a block to a row. -/
theorem padded_at (c : Dev nD) (t : Fin 16) (x : Fin 65536) :
    (V m c main_v1 : S16x65536.Idx → BitVec 32) (ix2 t x)
      = if h : t.val * 65536 + x.val < 1000000 then
          (m ((c : Thread nD τ).loc main_arg1) : S1000000.Idx → BitVec 32) (ix1 ⟨t.val * 65536 + x.val, h⟩)
        else -1#32 := by
  unfold V V0
  after_reads_at
  rfl

/-- A sample's scores, down the column of its point's block. -/
theorem fill_at (c : Dev nD) (t : Fin cfg0.N) (d : Vec F S64x65536 .f32) (k : Fin 64) (x : Fin 65536)
    (h : t.val * 65536 + x.val < 1000000) :
    win0_0.fill (grid0.coords t) d (iblk m c 0 t) (ix2 k x)
      = (m ((c : Thread nD τ).loc main_arg0) : S1000000x64.Idx → F .f32) (ix2 ⟨t.val * 65536 + x.val, h⟩ k) := by
  rw [← transposed_at m c k]
  unfold Pipeline.Window.fill
  rw [dif_pos ((win0_0.moved_iff _ _).mpr fun a => by
    rw [width_scores t]
    match a with
    | ⟨0, _⟩ => exact k.isLt
    | ⟨1, _⟩ => exact (by simp only [lt_min_iff]; omega : x.val < min 65536 (1000000 - 65536 * t.val)))]
  blk_ext [iblk, index_scores]

theorem targets_at (c : Dev nD) (t : Fin cfg0.N) (x : Fin 65536) :
    targets m c t (ix2 0 x)
      = if h : t.val * 65536 + x.val < 1000000 then
          (m ((c : Thread nD τ).loc main_arg1) : S1000000.Idx → BitVec 32) (ix1 ⟨t.val * 65536 + x.val, h⟩)
        else -1#32 := by
  have ht : t.val < 16 := Nat.lt_of_lt_of_eq t.isLt N_0
  rw [← padded_at m c ⟨t.val, ht⟩ x]
  unfold targets trow View.ld
  have o0 : k0_off1 (grid0.coords t) 0 = t.val := offset_targets t
  blk_ext [iblk, index_targets]
  · show k0_off1 (grid0.coords t) 0 + 1 * 0 = t.val
    omega
  · have o1 : k0_off1 (grid0.coords t) 1 = 0 := rfl
    show k0_off1 (grid0.coords t) 1 + 1 * x.val = x.val
    omega

end Cert.Inputs
-- ==== Proof.Tally.lean ====
/-
  The mathematics of the tally. A sample's class is the lowest position holding its greatest score; a sample is a hit for
  `(i, j)` when its target is `i` and its class `j`; the histogram counts the hits.
-/
module

public import Idealize.ShloMosaic.PureOps.Ideal
public import Mathlib.Data.EReal.Operations

@[expose] public section

noncomputable section

namespace Cert.Tally

open Idealize.ShloMosaic

/-- Position `j` holds the greatest of `p`, and none before it does. -/
def Wins (p : Fin 64 → EReal) (j : Fin 64) : Prop := (∀ k, p k ≤ p j) ∧ ∀ k, k < j → p k < p j

/-- Some position wins … -/
theorem exists_wins (p : Fin 64 → EReal) : ∃ j, Wins p j := by
  classical
  obtain ⟨g, -, hg⟩ := Finset.exists_max_image Finset.univ p ⟨0, Finset.mem_univ _⟩
  have hne : (Finset.univ.filter fun k => p k = p g).Nonempty := ⟨g, by simp⟩
  have hmem := Finset.min'_mem _ hne
  have hj : p (Finset.min' _ hne) = p g := (Finset.mem_filter.mp hmem).2
  have hle : ∀ k, p k ≤ p (Finset.min' _ hne) := fun k => (hg k (Finset.mem_univ k)).trans (le_of_eq hj.symm)
  refine ⟨Finset.min' _ hne, hle, fun k hk => lt_of_le_of_ne (hle k) fun e => ?_⟩
  exact absurd (Finset.min'_le _ k (Finset.mem_filter.mpr ⟨Finset.mem_univ k, e.trans hj⟩)) (not_le.mpr hk)

/-- … and only one. -/
theorem wins_unique {p : Fin 64 → EReal} {i j : Fin 64} (hi : Wins p i) (hj : Wins p j) : i = j := by
  rcases lt_trichotomy i j with h | h | h
  · exact absurd (hi.1 j) (not_le.mpr (hj.2 i h))
  · exact h
  · exact absurd (hj.1 i) (not_le.mpr (hi.2 j h))

/-- A position's number as an extended real. -/
def num (k : Fin 64) : EReal := ((k.val : ℝ) : EReal)

theorem num_le {i j : Fin 64} : num i ≤ num j ↔ i ≤ j := by
  simp [num, EReal.coe_le_coe_iff]

theorem num_inj {i j : Fin 64} : num i = num j ↔ i = j := by
  rw [le_antisymm_iff, num_le, num_le, ← le_antisymm_iff]

theorem num_lt_64 (k : Fin 64) : num k < ((64 : ℝ) : EReal) := by
  rw [num, EReal.coe_lt_coe_iff]; exact_mod_cast k.isLt

/-- The least number among the positions that hold the greatest score is the winner's. -/
theorem least_of_greatest (p : Fin 64 → EReal) (j : Fin 64) :
    num j = Finset.univ.fold min ⊤ (fun k => if p k = Finset.univ.fold max ⊥ p then num k else ((64 : ℝ) : EReal))
      ↔ Wins p j := by
  obtain ⟨w, hw⟩ := exists_wins p
  have hmax : Finset.univ.fold max ⊥ p = p w :=
    le_antisymm (Finset.fold_max_le _ |>.mpr ⟨bot_le, fun k _ => hw.1 k⟩)
      (Finset.le_fold_max _ |>.mpr (Or.inr ⟨w, Finset.mem_univ w, le_rfl⟩))
  have hmin : Finset.univ.fold min ⊤ (fun k => if p k = Finset.univ.fold max ⊥ p then num k else ((64 : ℝ) : EReal)) = num w := by
    rw [hmax]
    refine le_antisymm (Finset.fold_min_le _ |>.mpr (Or.inr ⟨w, Finset.mem_univ w, by simp⟩))
      (Finset.le_fold_min _ |>.mpr ⟨le_top, fun k _ => ?_⟩)
    split
    · next h => exact num_le.mpr (not_lt.mp fun hk => absurd h (ne_of_lt (hw.2 k hk)))
    · exact (num_lt_64 w).le
  rw [hmin, num_inj]
  exact ⟨fun h => h ▸ hw, fun h => wins_unique h hw⟩

/-- Sample `n` is a hit for `(i, j)`: its target is `i` and its class `j`. -/
def Hit (x : Fin 1000000 → Fin 64 → EReal) (y : Fin 1000000 → BitVec 32) (i j : Fin 64) (n : Fin 1000000) : Prop :=
  (y n).toInt = i.val ∧ Wins (x n) j

/-- How many of the samples are hits for `(i, j)`. -/
def tally (x : Fin 1000000 → Fin 64 → EReal) (y : Fin 1000000 → BitVec 32) (i j : Fin 64) : ℕ :=
  open Classical in (Finset.univ.filter (Hit x y i j)).card

theorem tally_le (x : Fin 1000000 → Fin 64 → EReal) (y : Fin 1000000 → BitVec 32) (i j : Fin 64) : tally x y i j ≤ 1000000 := by
  classical
  exact (Finset.card_filter_le _ _).trans (by simp)

/-- Position `s` of the padded samples counts one if it holds a sample and the sample is a hit. -/
def one (x : Fin 1000000 → Fin 64 → EReal) (y : Fin 1000000 → BitVec 32) (i j : Fin 64) (s : ℕ) : ℕ :=
  open Classical in if h : s < 1000000 then (if Hit x y i j ⟨s, h⟩ then 1 else 0) else 0

/-- Over all padded positions the ones add up to the tally. -/
theorem sum_one (x : Fin 1000000 → Fin 64 → EReal) (y : Fin 1000000 → BitVec 32) (i j : Fin 64) (N : ℕ) (hN : 1000000 ≤ N) :
    ∑ s ∈ Finset.range N, one x y i j s = tally x y i j := by
  classical
  obtain ⟨e, rfl⟩ := Nat.exists_eq_add_of_le hN
  rw [Finset.sum_range_add, ← Fin.sum_univ_eq_sum_range, tally, Finset.card_filter]
  have h0 : ∑ s ∈ Finset.range e, one x y i j (1000000 + s) = 0 :=
    Finset.sum_eq_zero fun s _ => dif_neg (by omega)
  rw [h0, add_zero]
  exact Finset.sum_congr rfl fun n _ => by rw [one, dif_pos n.isLt]

end Cert.Tally
-- ==== Proof.Accumulated.lean ====
/-
  The kernel's accumulator counts hits: a point adds one at `(i, j)` for each of its samples that is a hit for `(i, j)`,
  the columns past the last sample add nothing whatever they hold, and after the last point it holds the tally.
-/
module

public import proofs.«01_k».proof.Proof.Inputs
public import proofs.«01_k».proof.Proof.Tally

@[expose] public section

set_option maxRecDepth 16384

noncomputable section

namespace Cert.Accumulated

open Cert.KernelIdeal Cert.KernelIdeal.Gen Cert.IdealRun Cert.Tally
open Idealize.ShloMosaic Idealize.ShloMosaic.TcCoe

variable (m : (ℓ : Loc nD τ sig) → Buf (Elt Ideal) ℓ)

/-- The samples' scores and targets, by sample. -/
def x (c : Dev nD) (n : Fin 1000000) (k : Fin 64) : EReal := (m ((c : Thread nD τ).loc main_arg0) : S1000000x64.Idx → EReal) (ix2 n k)
def y (c : Dev nD) (n : Fin 1000000) : BitVec 32 := (m ((c : Thread nD τ).loc main_arg1) : S1000000.Idx → BitVec 32) (ix1 n)

/-! ## One block -/

theorem pos_inf : Ideal.ofBits .f32 2139095040#32 = ⊤ := by simp [Ideal.ofBits, Ideal.ieee]
theorem neg_inf : Ideal.ofBits .f32 4286578688#32 = ⊥ := by simp [Ideal.ofBits, Ideal.ieee]
theorem sixty_four : Ideal.ofBits .f32 1115684864#32 = ((64 : ℝ) : EReal) := by
  simp [Ideal.ofBits, Ideal.ieee, -EReal.coe_mul]; norm_num

/-- A class number read from its word. -/
theorem toInt_class (k : Fin 64) : (BitVec.ofNat 32 k.val).toInt = k.val := by
  have := k.isLt
  rw [BitVec.toInt_ofNat']
  unfold Int.bmod
  norm_num
  omega

theorem class_number (k : Fin 64) : (FloatOps.sitofp .f32 (BitVec.ofNat 32 k.val) : Ideal .f32) = num k := by
  show (((BitVec.ofNat 32 k.val).toInt : ℝ) : EReal) = _
  rw [toInt_class]; simp [num]

theorem classes_at (k : Fin 64) (s : Fin 65536) : k0_pay11 (F := Ideal) (ix2 k s) = num k := by
  rw [← class_number]
  pointwise [k0_pay11]

theorem number_eq_target (k : Fin 64) (t : BitVec 32) : num k = (FloatOps.sitofp .f32 t : Ideal .f32) ↔ t.toInt = k.val := by
  show ((k.val : ℝ) : EReal) = ((t.toInt : ℝ) : EReal) ↔ _
  rw [EReal.coe_eq_coe_iff]
  constructor
  · intro h; exact_mod_cast h.symm
  · intro h; rw [h]; simp

/-- A point's contraction counts its columns whose target is `i` and whose winner is `j`. -/
theorem contraction_at (cls p : Vec Ideal S64x65536 .f32) (hcls : ∀ k s, cls (ix2 k s) = num k) (t : Vec Ideal S1x65536 .i32)
    (a : Vec Ideal S64x64 .f32) (i j : Fin 64) (f : Fin 65536 → EReal)
    (hf : ∀ s, f s = open Classical in if (t (ix2 0 s)).toInt = i.val ∧ Wins (fun k => p (ix2 k s)) j then 1 else 0) :
    k0_pay12 cls p t a (ix2 i j) = a (ix2 i j) + ∑ s : Fin 65536, f s := by
  classical
  pointwise [k0_pay12]
  refine congrArg (a (ix2 i j) + ·) (Finset.sum_congr rfl fun s _ => ?_)
  rw [hf]
  simp only [hcls, pos_inf, neg_inf, sixty_four, number_eq_target, least_of_greatest]
  by_cases h1 : (t (ix2 0 s)).toInt = i.val <;> by_cases h2 : Wins (fun k => p (ix2 k s)) j <;> simp [h1, h2]

/-- At a point of the launch: its samples' hits, whatever stands in the columns past the last sample. -/
theorem point_at (c : Dev nD) (t : Fin cfg0.N) (d : Vec Ideal S64x65536 .f32) (a : Vec Ideal S64x64 .f32) (i j : Fin 64) :
    k0_pay12 k0_pay11 (win0_0.fill (grid0.coords t) d (iblk m c 0 t)) (targets m c t) a (ix2 i j)
      = a (ix2 i j) + ((∑ s ∈ Finset.range 65536, one (x m c) (y m c) i j (t.val * 65536 + s) : ℕ) : EReal) := by
  classical
  have hs : (∑ s : Fin 65536, ((one (x m c) (y m c) i j (t.val * 65536 + s.val) : ℕ) : EReal))
      = ((∑ s ∈ Finset.range 65536, one (x m c) (y m c) i j (t.val * 65536 + s) : ℕ) : EReal) := by
    rw [← Fin.sum_univ_eq_sum_range (fun s => one (x m c) (y m c) i j (t.val * 65536 + s)), Nat.cast_sum]
  rw [← hs]
  apply contraction_at (k0_pay11 (F := Ideal)) (win0_0.fill (grid0.coords t) d (iblk m c 0 t)) classes_at (targets m c t) a i j
  intro s
  rw [Inputs.targets_at, one]
  by_cases h : t.val * 65536 + s.val < 1000000
  · simp only [dif_pos h]
    have e : (fun k => win0_0.fill (grid0.coords t) d (iblk m c 0 t) (ix2 k s)) = x m c ⟨t.val * 65536 + s.val, h⟩ :=
      funext fun k => Inputs.fill_at m c t d k s h
    rw [e]
    by_cases hh : Hit (x m c) (y m c) i j ⟨t.val * 65536 + s.val, h⟩
    · rw [if_pos hh, if_pos (by exact hh), Nat.cast_one]
    · rw [if_neg hh, if_neg (by exact hh), Nat.cast_zero]
  · simp only [dif_neg h]
    have hn : ¬ ((-1#32 : BitVec 32).toInt = (i.val : ℤ)) := by
      have : (-1#32 : BitVec 32).toInt = -1 := by decide
      omega
    simp [hn]

theorem paddingIgnored : PaddingIgnored m := fun c t d a => funext fun q => by
  rw [ValueIdx.eq_ix2 q]
  exact (point_at m c t d a _ _).trans (point_at m c t _ a _ _).symm

/-! ## All blocks -/

theorem zero_at (i j : Fin 64) : k0_pay10 (F := Ideal) (ix2 i j) = 0 := by pointwise [k0_pay10]

/-- After point `n` the accumulator holds the hits among the positions so far. -/
theorem accAt_at (c : Dev nD) (i j : Fin 64)  (n : ℕ) (h : n < cfg0.N) :
    accAt m c n h (ix2 i j) = ((∑ s ∈ Finset.range ((n + 1) * 65536), one (x m c) (y m c) i j s : ℕ) : EReal) := by
  induction n with
  | zero =>
    refine (congrFun (accAt_zero m c ⟨0, h⟩ rfl) (ix2 i j)).trans ?_
    refine (point_at m c ⟨0, h⟩ _ _ i j).trans ?_
    simp only [zero_at, zero_add, Nat.zero_add, Nat.one_mul, Nat.zero_mul]
  | succ n ih =>
    refine (congrFun (accAt_pos m c ⟨n + 1, h⟩ (Nat.succ_ne_zero n)) (ix2 i j)).trans ?_
    refine (point_at m c ⟨n + 1, h⟩ _ _ i j).trans ?_
    simp only [Nat.add_sub_cancel]
    rw [ih, ← Nat.cast_add, ← Finset.sum_range_add, ← Nat.succ_mul]

/-- After the last point it holds the tally. -/
theorem accAt_last (c : Dev nD) (h : 15 < cfg0.N) (i j : Fin 64) :
    accAt m c 15 h (ix2 i j) = ((tally (x m c) (y m c) i j : ℕ) : EReal) := by
  rw [accAt_at, sum_one _ _ _ _ _ (by norm_num)]

end Cert.Accumulated
-- ==== Proof.ReferenceRun.lean ====
/-
  The run of the reference. Its program is one line of host operations, so every buffer ends at what the operations, in
  order, put there. The values are named in stages: each sample's label, its bin, the histogram, the diagonal, the
  order of the diagonal, and the diagonal in that order.
-/
module

public import proofs.«01_k».proof.Proof.Gen.ReferenceIdeal
public import Idealize.ShloMosaic.Lib.StableHlo.RunRead
public import Idealize.ShloMosaic.Lib.Quiescent
public import Idealize.ShloMosaic.Lib.Claim

@[expose] public section

set_option maxRecDepth 16384

noncomputable section

namespace Cert.ReferenceRun

open Cert.ReferenceIdeal Cert.ReferenceIdeal.Gen
open Idealize.ShloMosaic Idealize.ShloMosaic.TcCoe Idealize.ShloMosaic.StableHlo Idealize.SL.Sem

variable {F : FTy → Type} [FloatOps F]

/-! ## The values, in stages -/

/-- Each sample's label: the position of its largest score, the first of several. -/
def label (x : FVec F S1000000x64 .f32) : IVec S1000000 32 := fun j =>
  (Host.argReduce reducer_argmax_f32_i32 x (iotaInDim S1000000x64 32 1) (constant S_ .f32 0xFF800000#32) (constantI S_ 32 0#32)
    reducesTo_S1000000x64_S1000000_d1 h_S_ j).2

/-- Each sample's bin: `64 · target + label`, or the overflow bin 4096 where the target is no class. -/
def bin (y l : IVec S1000000 32) : IVec S1000000 32 :=
  select (andi (cmpi .sge y (broadcastInDim S1000000 ![] bcast_S_S1000000 (constantI S_ 32 0#32)))
      (cmpi .slt y (broadcastInDim S1000000 ![] bcast_S_S1000000 (constantI S_ 32 64#32))))
    (addi (muli (broadcastInDim S1000000 ![] bcast_S_S1000000 (constantI S_ 32 64#32)) y) l)
    (broadcastInDim S1000000 ![] bcast_S_S1000000 (constantI S_ 32 4096#32))

/-- The bins made non-negative, and a negative one wrapped round. -/
def place (b : IVec S1000000 32) : IVec S1000000 32 :=
  select (cmpi .slt (maxsi (broadcastInDim S1000000 ![] bcast_S_S1000000 (constantI S_ 32 0#32)) b)
      (broadcastInDim S1000000 ![] bcast_S_S1000000 (constantI S_ 32 0#32)))
    (addi (maxsi (broadcastInDim S1000000 ![] bcast_S_S1000000 (constantI S_ 32 0#32)) b)
      (broadcastInDim S1000000 ![] bcast_S_S1000000 (constantI S_ 32 4097#32)))
    (maxsi (broadcastInDim S1000000 ![] bcast_S_S1000000 (constantI S_ 32 0#32)) b)

/-- The counts of the 4097 bins: one added at each sample's bin. -/
def counts (p : IVec S1000000 32) : IVec S4097 32 :=
  Host.scatter scatter_S4097_S1000000x1_S1000000_n_0_0_1 IntOp.addi
    (broadcastInDim S4097 ![] bcast_S_S4097 (constantI S_ 32 0#32))
    (broadcastInDim S1000000x1 ![0] bcast_S1000000_S1000000x1_0 p)
    (broadcastInDim S1000000 ![] bcast_S_S1000000 (constantI S_ 32 1#32))

/-- The histogram: the first 4096 counts as a table, row by target, column by label. -/
def table (k : IVec S4097 32) : IVec S64x64 32 :=
  shapeCast S64x64 (extractStridedSlice S4096 ![0] k slices_S4097_S4096_0) shapeCasts_S4096_S64x64

/-- An index wrapped round the 64 classes where it is negative. -/
def wrap (i : IVec S64 32) : IVec S64 32 :=
  select (cmpi .slt i (broadcastInDim S64 ![] bcast_S_S64 (constantI S_ 32 0#32)))
    (addi i (broadcastInDim S64 ![] bcast_S_S64 (constantI S_ 32 64#32))) i

/-- The histogram's diagonal. -/
def diagonal (h : IVec S64x64 32) : IVec S64 32 :=
  Host.gather gather_S64x64_S64x2_S64_n_01_n_n_01_1_11 h
    (concatenate S64x2 1 [⟨S64x1, broadcastInDim S64x1 ![0] bcast_S64_S64x1_0 (wrap (iotaInDim S64 32 0))⟩,
      ⟨S64x1, broadcastInDim S64x1 ![0] bcast_S64_S64x1_0 (wrap (iotaInDim S64 32 0))⟩] concatenates_S64x1_S64x1_S64x2_d1)

/-- The classes in ascending order of their diagonal count, equal counts in class order. -/
def order (d : IVec S64 32) : IVec S64 32 :=
  (Host.sort2 S64 0 comparator_i32_i32_d0 d (iotaInDim S64 32 0)).2

/-- The diagonal read in a given order. -/
def ordered (d o : IVec S64 32) : IVec S64 32 :=
  Host.gather gather_S64_S64x1_S64_n_0_n_n_0_1_1 d (broadcastInDim S64x1 ![0] bcast_S64_S64x1_0 (wrap o))

/-- The histogram of scores `x` and targets `y`. -/
def hist (x : FVec F S1000000x64 .f32) (y : IVec S1000000 32) : IVec S64x64 32 :=
  table (counts (place (bin y (label x))))

/-! ## The line of operations -/

/-- The operations up to the labels. -/
abbrev labelOps : List (HloOp τ sig (Elt F)) :=
  [ TRef.nullary main_call0.v0 (iotaInDim S1000000x64 32 1),
    TRef.nullary main_call0.cst (constant S_ .f32 0xFF800000#32),
    TRef.nullary main_call0.c (constantI S_ 32 0#32),
    TRef.quaternary (TRef.of main_arg0) main_call0.v0 main_call0.cst main_call0.c main_call0.v1_0 (fun x y u v j => (Host.argReduce reducer_argmax_f32_i32 x y u v reducesTo_S1000000x64_S1000000_d1 h_S_ j).1),
    TRef.quaternary (TRef.of main_arg0) main_call0.v0 main_call0.cst main_call0.c main_call0.v1_1 (fun x y u v j => (Host.argReduce reducer_argmax_f32_i32 x y u v reducesTo_S1000000x64_S1000000_d1 h_S_ j).2) ]

/-- From the labels to the bins. -/
abbrev binOps : List (HloOp τ sig (Elt F)) :=
  [ nullary main_c (constantI S_ 32 0#32),
    unary main_c main_v1 (broadcastInDim S1000000 ![] bcast_S_S1000000 : (⟨S_, .i32⟩ : BufTy).Contents (Elt F) → (⟨S1000000, .i32⟩ : BufTy).Contents (Elt F)),
    binary main_arg1 main_v1 main_v2 (cmpi .sge : (⟨S1000000, .i32⟩ : BufTy).Contents (Elt F) → (⟨S1000000, .i32⟩ : BufTy).Contents (Elt F) → (⟨S1000000, .i1⟩ : BufTy).Contents (Elt F)),
    nullary main_c_0 (constantI S_ 32 64#32),
    unary main_c_0 main_v3 (broadcastInDim S1000000 ![] bcast_S_S1000000 : (⟨S_, .i32⟩ : BufTy).Contents (Elt F) → (⟨S1000000, .i32⟩ : BufTy).Contents (Elt F)),
    binary main_arg1 main_v3 main_v4 (cmpi .slt : (⟨S1000000, .i32⟩ : BufTy).Contents (Elt F) → (⟨S1000000, .i32⟩ : BufTy).Contents (Elt F) → (⟨S1000000, .i1⟩ : BufTy).Contents (Elt F)),
    binary main_v2 main_v4 main_v5 (andi : (⟨S1000000, .i1⟩ : BufTy).Contents (Elt F) → (⟨S1000000, .i1⟩ : BufTy).Contents (Elt F) → (⟨S1000000, .i1⟩ : BufTy).Contents (Elt F)),
    nullary main_c_1 (constantI S_ 32 64#32),
    unary main_c_1 main_v6 (broadcastInDim S1000000 ![] bcast_S_S1000000 : (⟨S_, .i32⟩ : BufTy).Contents (Elt F) → (⟨S1000000, .i32⟩ : BufTy).Contents (Elt F)),
    binary main_v6 main_arg1 main_v7 (muli : (⟨S1000000, .i32⟩ : BufTy).Contents (Elt F) → (⟨S1000000, .i32⟩ : BufTy).Contents (Elt F) → (⟨S1000000, .i32⟩ : BufTy).Contents (Elt F)),
    binary main_v7 main_v0 main_v8 (addi : (⟨S1000000, .i32⟩ : BufTy).Contents (Elt F) → (⟨S1000000, .i32⟩ : BufTy).Contents (Elt F) → (⟨S1000000, .i32⟩ : BufTy).Contents (Elt F)),
    nullary main_c_2 (constantI S_ 32 4096#32),
    TRef.unary (TRef.of main_c_2) main_call1.v0 id,
    TRef.unary main_call1.v0 main_call1.v1 (broadcastInDim S1000000 ![] bcast_S_S1000000),
    TRef.ternary (TRef.of main_v5) (TRef.of main_v8) main_call1.v1 main_call1.v2 select ]

/-- From the bins to the places counted at. -/
abbrev placeOps : List (HloOp τ sig (Elt F)) :=
  [ nullary main_c_3 (constantI S_ 32 0#32),
    unary main_c_3 main_v10 (broadcastInDim S4097 ![] bcast_S_S4097 : (⟨S_, .i32⟩ : BufTy).Contents (Elt F) → (⟨S4097, .i32⟩ : BufTy).Contents (Elt F)),
    nullary main_c_4 (constantI S_ 32 0#32),
    TRef.unary (TRef.of main_c_4) main_call2.v0 id,
    TRef.unary main_call2.v0 main_call2.v1 (broadcastInDim S1000000 ![] bcast_S_S1000000),
    TRef.binary main_call2.v1 (TRef.of main_v9) main_call2.v2 maxsi,
    nullary main_c_5 (constantI S_ 32 0#32),
    unary main_c_5 main_v12 (broadcastInDim S1000000 ![] bcast_S_S1000000 : (⟨S_, .i32⟩ : BufTy).Contents (Elt F) → (⟨S1000000, .i32⟩ : BufTy).Contents (Elt F)),
    binary main_v11 main_v12 main_v13 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 4097#32),
    unary main_c_6 main_v14 (broadcastInDim S1000000 ![] bcast_S_S1000000 : (⟨S_, .i32⟩ : BufTy).Contents (Elt F) → (⟨S1000000, .i32⟩ : BufTy).Contents (Elt F)),
    binary main_v11 main_v14 main_v15 (addi : (⟨S1000000, .i32⟩ : BufTy).Contents (Elt F) → (⟨S1000000, .i32⟩ : BufTy).Contents (Elt F) → (⟨S1000000, .i32⟩ : BufTy).Contents (Elt F)),
    ternary main_v13 main_v15 main_v11 main_v16 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ]

/-- From the places to the histogram. -/
abbrev tableOps : List (HloOp τ sig (Elt F)) :=
  [ unary main_v16 main_v17 (broadcastInDim S1000000x1 ![0] bcast_S1000000_S1000000x1_0 : (⟨S1000000, .i32⟩ : BufTy).Contents (Elt F) → (⟨S1000000x1, .i32⟩ : BufTy).Contents (Elt F)),
    nullary main_c_7 (constantI S_ 32 1#32),
    unary main_c_7 main_v18 (broadcastInDim S1000000 ![] bcast_S_S1000000 : (⟨S_, .i32⟩ : BufTy).Contents (Elt F) → (⟨S1000000, .i32⟩ : BufTy).Contents (Elt F)),
    ternary main_v10 main_v17 main_v18 main_v19 ((fun x i u => Host.scatter scatter_S4097_S1000000x1_S1000000_n_0_0_1 IntOp.addi x i u) : (⟨S4097, .i32⟩ : BufTy).Contents (Elt F) → (⟨S1000000x1, .i32⟩ : BufTy).Contents (Elt F) → (⟨S1000000, .i32⟩ : BufTy).Contents (Elt F) → (⟨S4097, .i32⟩ : BufTy).Contents (Elt F)),
    unary main_v19 main_v20 ((extractStridedSlice S4096 ![0] · slices_S4097_S4096_0) : (⟨S4097, .i32⟩ : BufTy).Contents (Elt F) → (⟨S4096, .i32⟩ : BufTy).Contents (Elt F)),
    reshape main_v20 main_v21 (rfl : (.i32 : EltTy) = .i32) shapeCasts_S4096_S64x64 ]

/-- From the histogram to its diagonal. -/
abbrev diagonalOps : List (HloOp τ sig (Elt F)) :=
  [ nullary main_v22 (iotaInDim S64 32 0),
    nullary main_c_8 (constantI S_ 32 0#32),
    unary main_c_8 main_v23 (broadcastInDim S64 ![] bcast_S_S64 : (⟨S_, .i32⟩ : BufTy).Contents (Elt F) → (⟨S64, .i32⟩ : BufTy).Contents (Elt F)),
    binary main_v22 main_v23 main_v24 (cmpi .slt : (⟨S64, .i32⟩ : BufTy).Contents (Elt F) → (⟨S64, .i32⟩ : BufTy).Contents (Elt F) → (⟨S64, .i1⟩ : BufTy).Contents (Elt F)),
    nullary main_c_9 (constantI S_ 32 64#32),
    unary main_c_9 main_v25 (broadcastInDim S64 ![] bcast_S_S64 : (⟨S_, .i32⟩ : BufTy).Contents (Elt F) → (⟨S64, .i32⟩ : BufTy).Contents (Elt F)),
    binary main_v22 main_v25 main_v26 (addi : (⟨S64, .i32⟩ : BufTy).Contents (Elt F) → (⟨S64, .i32⟩ : BufTy).Contents (Elt F) → (⟨S64, .i32⟩ : BufTy).Contents (Elt F)),
    ternary main_v24 main_v26 main_v22 main_v27 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_10 (constantI S_ 32 0#32),
    unary main_c_10 main_v28 (broadcastInDim S64 ![] bcast_S_S64 : (⟨S_, .i32⟩ : BufTy).Contents (Elt F) → (⟨S64, .i32⟩ : BufTy).Contents (Elt F)),
    binary main_v22 main_v28 main_v29 (cmpi .slt : (⟨S64, .i32⟩ : BufTy).Contents (Elt F) → (⟨S64, .i32⟩ : BufTy).Contents (Elt F) → (⟨S64, .i1⟩ : BufTy).Contents (Elt F)),
    nullary main_c_11 (constantI S_ 32 64#32),
    unary main_c_11 main_v30 (broadcastInDim S64 ![] bcast_S_S64 : (⟨S_, .i32⟩ : BufTy).Contents (Elt F) → (⟨S64, .i32⟩ : BufTy).Contents (Elt F)),
    binary main_v22 main_v30 main_v31 (addi : (⟨S64, .i32⟩ : BufTy).Contents (Elt F) → (⟨S64, .i32⟩ : BufTy).Contents (Elt F) → (⟨S64, .i32⟩ : BufTy).Contents (Elt F)),
    ternary main_v29 main_v31 main_v22 main_v32 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v27 main_v33 (broadcastInDim S64x1 ![0] bcast_S64_S64x1_0 : (⟨S64, .i32⟩ : BufTy).Contents (Elt F) → (⟨S64x1, .i32⟩ : BufTy).Contents (Elt F)),
    unary main_v32 main_v34 (broadcastInDim S64x1 ![0] bcast_S64_S64x1_0 : (⟨S64, .i32⟩ : BufTy).Contents (Elt F) → (⟨S64x1, .i32⟩ : BufTy).Contents (Elt F)),
    binary main_v33 main_v34 main_v35 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    binary main_v21 main_v35 main_v36 ((fun x i => Host.gather gather_S64x64_S64x2_S64_n_01_n_n_01_1_11 x i) : (⟨S64x64, .i32⟩ : BufTy).Contents (Elt F) → (⟨S64x2, .i32⟩ : BufTy).Contents (Elt F) → (⟨S64, .i32⟩ : BufTy).Contents (Elt F)) ]

/-- The sort of the diagonal. -/
abbrev orderOps : List (HloOp τ sig (Elt F)) :=
  [ TRef.nullary main_call3.v0 (iotaInDim S64 32 0),
    TRef.binary (TRef.of main_v36) main_call3.v0 main_call3.v1_0 (fun x y => (Host.sort2 S64 0 comparator_i32_i32_d0 x y).1),
    TRef.binary (TRef.of main_v36) main_call3.v0 main_call3.v1_1 (fun x y => (Host.sort2 S64 0 comparator_i32_i32_d0 x y).2) ]

/-- The diagonal read in the sorted order. -/
abbrev orderedOps : List (HloOp τ sig (Elt F)) :=
  [ nullary main_c_12 (constantI S_ 32 0#32),
    unary main_c_12 main_v38 (broadcastInDim S64 ![] bcast_S_S64 : (⟨S_, .i32⟩ : BufTy).Contents (Elt F) → (⟨S64, .i32⟩ : BufTy).Contents (Elt F)),
    binary main_v37 main_v38 main_v39 (cmpi .slt : (⟨S64, .i32⟩ : BufTy).Contents (Elt F) → (⟨S64, .i32⟩ : BufTy).Contents (Elt F) → (⟨S64, .i1⟩ : BufTy).Contents (Elt F)),
    nullary main_c_13 (constantI S_ 32 64#32),
    unary main_c_13 main_v40 (broadcastInDim S64 ![] bcast_S_S64 : (⟨S_, .i32⟩ : BufTy).Contents (Elt F) → (⟨S64, .i32⟩ : BufTy).Contents (Elt F)),
    binary main_v37 main_v40 main_v41 (addi : (⟨S64, .i32⟩ : BufTy).Contents (Elt F) → (⟨S64, .i32⟩ : BufTy).Contents (Elt F) → (⟨S64, .i32⟩ : BufTy).Contents (Elt F)),
    ternary main_v39 main_v41 main_v37 main_v42 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v42 main_v43 (broadcastInDim S64x1 ![0] bcast_S64_S64x1_0 : (⟨S64, .i32⟩ : BufTy).Contents (Elt F) → (⟨S64x1, .i32⟩ : BufTy).Contents (Elt F)),
    binary main_v36 main_v43 main_v44 ((fun x i => Host.gather gather_S64_S64x1_S64_n_0_n_n_0_1_1 x i) : (⟨S64, .i32⟩ : BufTy).Contents (Elt F) → (⟨S64x1, .i32⟩ : BufTy).Contents (Elt F) → (⟨S64, .i32⟩ : BufTy).Contents (Elt F)) ]

/-- The program's operations in order, its functions' bodies in place of their calls. -/
abbrev ops : List (HloOp τ sig (Elt F)) :=
  labelOps ++ (binOps ++ (placeOps ++ (tableOps ++ (diagonalOps ++ (orderOps ++ (orderedOps))))))

/-- The program is that line. -/
theorem main_eq (c : Dev nD) : main (F := F) c = seq ops := by
  simp only [main, main_part0, main_part1, fn_argmax.body, fn_where.body, fn_clip.body, fn_argsort.body, seq, ops, List.cons_append, List.nil_append, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., unary_bufs_sub .., reshape_bufs_sub .., nullary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub ..⟩

/-- Every execution ends, each buffer at what the operations put there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What each stretch leaves -/

variable (V : Valuation τ sig (Elt F))

theorem label_v0 : after labelOps V (main_v0 : DevRef τ sig) = label (V (main_arg0 : DevRef τ sig)) := by
  after_reads_simp
  rfl

theorem bin_v9 : after binOps V (main_v9 : DevRef τ sig)
    = bin (V (main_arg1 : DevRef τ sig)) (V (main_v0 : DevRef τ sig)) := by
  after_reads_simp
  rfl

theorem place_v16 : after placeOps V (main_v16 : DevRef τ sig) = place (V (main_v9 : DevRef τ sig)) := by
  after_reads_simp
  rfl

theorem place_v10 : after placeOps V (main_v10 : DevRef τ sig)
    = broadcastInDim S4097 ![] bcast_S_S4097 (constantI S_ 32 0#32) := by
  after_reads_simp

theorem table_v21 (h : V (main_v10 : DevRef τ sig) = broadcastInDim S4097 ![] bcast_S_S4097 (constantI S_ 32 0#32)) :
    after tableOps V (main_v21 : DevRef τ sig) = table (counts (V (main_v16 : DevRef τ sig))) := by
  after_reads_simp
  rw [h]
  rfl

theorem diagonal_v36 : after diagonalOps V (main_v36 : DevRef τ sig) = diagonal (V (main_v21 : DevRef τ sig)) := by
  after_reads_simp
  rfl

theorem order_v37 : after orderOps V (main_v37 : DevRef τ sig) = order (V (main_v36 : DevRef τ sig)) := by
  after_reads_simp
  rfl

theorem ordered_v44 : after orderedOps V (main_v44 : DevRef τ sig)
    = ordered (V (main_v36 : DevRef τ sig)) (V (main_v37 : DevRef τ sig)) := by
  after_reads_simp
  rfl

theorem label_arg1 : after labelOps V (main_arg1 : DevRef τ sig) = V (main_arg1 : DevRef τ sig) := by
  after_reads_simp

theorem diagonal_v21 : after diagonalOps V (main_v21 : DevRef τ sig) = V (main_v21 : DevRef τ sig) := by
  after_reads_simp

theorem order_v21 : after orderOps V (main_v21 : DevRef τ sig) = V (main_v21 : DevRef τ sig) := by
  after_reads_simp

theorem order_v36 : after orderOps V (main_v36 : DevRef τ sig) = V (main_v36 : DevRef τ sig) := by
  after_reads_simp

theorem ordered_v21 : after orderedOps V (main_v21 : DevRef τ sig) = V (main_v21 : DevRef τ sig) := by
  after_reads_simp

theorem ordered_v37 : after orderedOps V (main_v37 : DevRef τ sig) = V (main_v37 : DevRef τ sig) := by
  after_reads_simp

theorem arg0_eq : after ops V (main_arg0 : DevRef τ sig) = V (main_arg0 : DevRef τ sig) := by
  simp only [ops, after_append]
  after_reads_simp

theorem arg1_eq : after ops V (main_arg1 : DevRef τ sig) = V (main_arg1 : DevRef τ sig) := by
  simp only [ops, after_append]
  after_reads_simp

/-! ## The whole line -/

/-- After the histogram's stretch its buffer holds the histogram. -/
theorem table_hist : after tableOps (after placeOps (after binOps (after labelOps V))) (main_v21 : DevRef τ sig)
    = hist (V (main_arg0 : DevRef τ sig)) (V (main_arg1 : DevRef τ sig)) := by
  rw [table_v21 _ (place_v10 _), place_v16, bin_v9, label_v0, label_arg1]
  rfl

/-- The histogram's buffer ends at the histogram. -/
theorem hist_eq :
    after ops V (main_v21 : DevRef τ sig) = hist (V (main_arg0 : DevRef τ sig)) (V (main_arg1 : DevRef τ sig)) := by
  rw [ops, after_append, after_append, after_append, after_append, after_append, after_append,
    ordered_v21, order_v21, diagonal_v21, table_hist]

/-- The keys' buffer ends at the order of the histogram's diagonal. -/
theorem keys_eq :
    after ops V (main_v37 : DevRef τ sig)
      = order (diagonal (hist (V (main_arg0 : DevRef τ sig)) (V (main_arg1 : DevRef τ sig)))) := by
  rw [ops, after_append, after_append, after_append, after_append, after_append, after_append,
    ordered_v37, order_v37, diagonal_v36, table_hist]

/-- The values' buffer ends at the diagonal in that order. -/
theorem vals_eq :
    after ops V (main_v44 : DevRef τ sig)
      = ordered (diagonal (hist (V (main_arg0 : DevRef τ sig)) (V (main_arg1 : DevRef τ sig))))
          (order (diagonal (hist (V (main_arg0 : DevRef τ sig)) (V (main_arg1 : DevRef τ sig))))) := by
  rw [ops, after_append, after_append, after_append, after_append, after_append, after_append,
    ordered_v44, order_v36, order_v37, diagonal_v36, table_hist]

/-- The frame of the reference. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0).trans (arg0_eq _), (h c main_arg1).trans (arg1_eq _)⟩,
    sem_eq_zero_of_no_sems (by decide) r.2⟩) (run_main m ρ)

/-- The results, and the arguments unchanged. -/
theorem results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v21)
        = hist (m ((c.tc : Thread nD τ).loc main_arg0)) (m ((c.tc : Thread nD τ).loc main_arg1))
      ∧ r.2.mem ((c.tc : Thread nD τ).loc main_v37)
        = order (diagonal (hist (m ((c.tc : Thread nD τ).loc main_arg0)) (m ((c.tc : Thread nD τ).loc main_arg1))))
      ∧ r.2.mem ((c.tc : Thread nD τ).loc main_v44)
        = ordered (diagonal (hist (m ((c.tc : Thread nD τ).loc main_arg0)) (m ((c.tc : Thread nD τ).loc main_arg1))))
            (order (diagonal (hist (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_v21).trans (hist_eq _), (h c main_v37).trans (keys_eq _),
    (h c main_v44).trans (vals_eq _), (h c main_arg0).trans (arg0_eq _), (h c main_arg1).trans (arg1_eq _)⟩) (run_main m ρ)

end Cert.ReferenceRun
-- ==== Proof.KernelResults.lean ====
/-
  What the three result arrays hold when the kernel's program ends, as functions of the accumulator after the last point.
-/
module

public import proofs.«01_k».proof.Proof.IdealRun
public import Idealize.ShloMosaic.Lib.Pipeline.ValueKit
public import Idealize.ShloMosaic.Lib.StableHlo.ReadAt

@[expose] public section

set_option maxRecDepth 16384

noncomputable section

namespace Cert.KernelResults

open Cert.KernelIdeal Cert.KernelIdeal.Gen Cert.IdealRun
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The accumulator after the last point. -/
def final (c : Dev nD) : Vec F S64x64 .f32 := accAt m c t0_15.val t0_15.isLt

/-! ## The arrays the pipeline writes back -/

theorem counts_array (c : Dev nD) : (dats m 0 c).arrAt 2 cfg0.N = k0_pay2 (final m c) := by
  refine (dats m 0 c).arrAt_eq_of_after_last 2 t0_15 (by decide +kernel) _ fun j => ?_
  blk_simp
  rw [after_2]
  rfl

theorem keys_array (c : Dev nD) : (dats m 0 c).arrAt 3 cfg0.N = k0_pay1 (k0_pay9 (final m c)) := by
  refine (dats m 0 c).arrAt_eq_of_after_last 3 t0_15 (by decide +kernel) _ fun j => ?_
  blk_simp
  rw [after_3]
  rfl

theorem vals_array (c : Dev nD) : (dats m 0 c).arrAt 4 cfg0.N = k0_pay8 (final m c) := by
  refine (dats m 0 c).arrAt_eq_of_after_last 4 t0_15 (by decide +kernel) _ fun j => ?_
  blk_simp
  rw [after_4]
  rfl

/-! ## The lines after the region -/

/-- The windows stage distinct arrays. -/
theorem arrays_distinct : Function.Injective (Pipeline.arrRef spec0) := by decide

theorem keys_flat (c : Dev nD) : Pipeline.afterTail₀ cfgs (dats m) 0 (V0 m) [hostOps1] c main_v4
    = shapeCast S64 (k0_pay1 (k0_pay9 (final m c))) shapeCasts_S1x64_S64 := by
  rw [← keys_array]
  unfold Pipeline.afterTail₀
  after_reads_simp [hostOps1]
  exact congrArg (fun v => shapeCast S64 v shapeCasts_S1x64_S64) (Pipeline.withArrays_arr spec0 arrays_distinct c (V0 m c) (fun w => (dats m 0 c).arrAt w cfg0.N) 3)

theorem vals_flat (c : Dev nD) : Pipeline.afterTail₀ cfgs (dats m) 0 (V0 m) [hostOps1] c main_v5
    = shapeCast S64 (k0_pay8 (final m c)) shapeCasts_S1x64_S64 := by
  rw [← vals_array]
  unfold Pipeline.afterTail₀
  after_reads_simp [hostOps1]
  exact congrArg (fun v => shapeCast S64 v shapeCasts_S1x64_S64) (Pipeline.withArrays_arr spec0 arrays_distinct c (V0 m c) (fun w => (dats m 0 c).arrAt w cfg0.N) 4)

/-- The results of the run, and the arguments as they were. -/
theorem results (hp : PaddingIgnored m) : θ_run defs (onTc (τ := τ) (main (F := F))) ⟨m, fun _ => 0, ρ⟩ (fun r => ∀ c : Dev nD,
      r.2.mem ((c.tc : Thread nD τ).loc main_v3_0) = k0_pay2 (final m c)
      ∧ r.2.mem ((c.tc : Thread nD τ).loc main_v4) = shapeCast S64 (k0_pay1 (k0_pay9 (final m c))) shapeCasts_S1x64_S64
      ∧ r.2.mem ((c.tc : Thread nD τ).loc main_v5) = shapeCast S64 (k0_pay8 (final m c)) shapeCasts_S1x64_S64
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_, (h.2.1 c).1, (h.2.1 c).2⟩)
    (Idealize.ShloMosaic.θ_run_and ((θ_run defs _ _).mono (fun _ h => h.1) (run m ρ hp)) (frame m ρ hp))
  · exact (h.1.out_eq c 2).trans (counts_array m c)
  · exact (h.1.rest_eq c main_v4 (by decide)).trans (keys_flat m c)
  · exact (h.1.rest_eq c main_v5 (by decide)).trans (vals_flat m c)

end Cert.KernelResults
-- ==== Proof.Ranking.lean ====
/-
  A stable ascending sort, told by ranks: the element that a stable sort puts at place `q` is the one that exactly `q`
  others come before, where a lower key comes first and equal keys keep their order.
-/
module

public import Idealize.ShloMosaic.Lib.SortFacts
public import Idealize.ShloMosaic.Lib.PlanTiles.StableSort

@[expose] public section

noncomputable section

namespace Cert.Ranking

open Idealize.ShloMosaic

variable {n : ℕ} (D : Fin n → ℕ)

/-- `a` comes before `b`: a lower key, or the same key and a lower position. -/
def Before (a b : Fin n) : Prop := D a < D b ∨ (D a = D b ∧ a < b)

instance : DecidableRel (Before D) := fun a b => by unfold Before; infer_instance

/-- How many come before `a`. -/
def rank (a : Fin n) : ℕ := (Finset.univ.filter fun b => Before D b a).card

/-- The stable ascending sort: the position whose element it puts at place `q`. -/
def sorted : Fin n → Fin n := sortedFrom fun k k' => decide (D k < D k')

/-- Places in order hold elements in order. -/
theorem sorted_before {p q : Fin n} (h : p < q) : Before D (sorted D p) (sorted D q) := by
  obtain ⟨C, hC⟩ : ∃ C, ∀ k, D k ≤ C := ⟨∑ k, D k, fun k => Finset.single_le_sum (fun _ _ => Nat.zero_le _) (Finset.mem_univ k)⟩
  have hs := PlanTiles.pairwise_stableSort_lex (fun k : Fin n => C - D k) (· < ·) (List.finRange n) (List.pairwise_lt_finRange n)
  have hb : (fun x y : Fin n => decide (C - D y < C - D x)) = fun k k' => decide (D k < D k') := by
    funext k k'
    have := hC k; have := hC k'
    exact decide_eq_decide.mpr (by omega)
  rw [hb] at hs
  have hl := List.pairwise_iff_get.mp hs (p.cast (length_sortPositions n _).symm) (q.cast (length_sortPositions n _).symm) h
  have := hC (sorted D p); have := hC (sorted D q)
  change PlanTiles.Lex (fun k : Fin n => C - D k) (· < ·) (sorted D p) (sorted D q) at hl
  simp only [PlanTiles.Lex] at hl
  unfold Before
  rcases hl with hl | hl
  · left; omega
  · right; exact ⟨by omega, hl.2⟩

theorem not_before_of_before {a b : Fin n} (h : Before D a b) : ¬ Before D b a := by
  unfold Before at *
  omega

theorem not_before_self (a : Fin n) : ¬ Before D a a := by
  unfold Before
  omega

theorem sorted_before_iff {p q : Fin n} : Before D (sorted D p) (sorted D q) ↔ p < q := by
  refine ⟨fun h => ?_, sorted_before D⟩
  rcases lt_trichotomy p q with k | rfl | k
  · exact k
  · exact absurd h (not_before_self D _)
  · exact absurd h (not_before_of_before D (sorted_before D k))

/-- The element at place `q` has rank `q` … -/
theorem rank_sorted (q : Fin n) : rank D (sorted D q) = q.val := by
  have e : (Finset.univ.filter fun b => Before D b (sorted D q)) = (Finset.univ.filter (· < q)).image (sorted D) := by
    ext b
    obtain ⟨p, rfl⟩ : ∃ p, sorted D p = b := sortedFrom_surjective _ b
    simp only [Finset.mem_filter, Finset.mem_univ, true_and, Finset.mem_image, sorted_before_iff]
    exact ⟨fun h => ⟨p, h, rfl⟩, fun ⟨p', h, hp⟩ => sortedFrom_injective _ hp ▸ h⟩
  rw [rank, e, Finset.card_image_of_injective _ (show Function.Injective (sorted D) from sortedFrom_injective _), Finset.filter_gt_eq_Iio, Fin.card_Iio]

/-- … and is the only one. -/
theorem rank_eq_iff (a q : Fin n) : rank D a = q.val ↔ a = sorted D q := by
  obtain ⟨p, rfl⟩ : ∃ p, sorted D p = a := sortedFrom_surjective _ a
  rw [rank_sorted]
  exact ⟨fun h => by rw [Fin.ext h], fun h => congrArg Fin.val (sortedFrom_injective _ h)⟩

end Cert.Ranking
-- ==== Proof.Outputs.lean ====
/-
  The kernel's three results as functions of its accumulator: where the accumulator holds counts, they are the counts,
  the classes in ascending order of their own count, and those counts in that order.
-/
module

public import proofs.«01_k».proof.Proof.Gen.KernelIdeal.Skeleton
public import proofs.«01_k».proof.Proof.Ranking
public import Idealize.ShloMosaic.Lib.Pointwise
public import Idealize.ShloMosaic.Lib.StableHlo.Predicate

@[expose] public section

set_option maxRecDepth 16384

noncomputable section

namespace Cert.Outputs

open Cert.KernelIdeal Cert.KernelIdeal.Gen Cert.Ranking
open Idealize.ShloMosaic

/-! ## Counts as words -/

/-- A count read back from its number is its word. -/
theorem word_of_count (n : ℕ) (h : n ≤ 1000000) : FloatOps.fptosi (F := Ideal) (φ := .f32) 32 (n : EReal) = BitVec.ofNat 32 n := by
  show BitVec.ofInt 32 (Ideal.toIntClamped _ _ (n : EReal)) = _
  rw [← EReal.coe_natCast, Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by norm_num; omega]
  simp

/-- A class number as a number. -/
theorem class_number (k : Fin 64) : (FloatOps.sitofp .f32 (BitVec.ofNat 32 k.val) : Ideal .f32) = ((k.val : ℕ) : EReal) := by
  show (((BitVec.ofNat 32 k.val).toInt : ℝ) : EReal) = _
  rw [StableHlo.Predicate.toInt_ofNat_small _ (by have := k.isLt; omega)]; simp

theorem row_number (i j : Fin 64) : k0_pay3 (F := Ideal) (ix2 i j) = ((i.val : ℕ) : EReal) := by
  rw [← class_number]; pointwise [k0_pay3]

theorem column_number (i j : Fin 64) : k0_pay4 (F := Ideal) (ix2 i j) = ((j.val : ℕ) : EReal) := by
  rw [← class_number]; pointwise [k0_pay4]

/-- The mask of the diagonal. -/
theorem mask_at (i j : Fin 64) : k0_pay5 (F := Ideal) (ix2 i j) = BitVec.ofBool (decide (i = j)) := by
  have e : k0_pay5 (F := Ideal) (ix2 i j) = BitVec.ofBool (decide (k0_pay3 (F := Ideal) (ix2 i j) = k0_pay4 (F := Ideal) (ix2 i j))) := by
    pointwise [k0_pay5]
  rw [e, row_number, column_number]
  simp only [Nat.cast_inj, Fin.val_inj]

theorem masked (i j : Fin 64) (x : EReal) : Scalar.select (BitVec.ofBool (decide (i = j))) x 0 = if i = j then x else 0 := by
  by_cases h : i = j <;> simp [h, Scalar.select]

/-! ## From the accumulator -/

variable (a : Vec Ideal S64x64 .f32) (T : Fin 64 → Fin 64 → ℕ) (hT : ∀ i j, T i j ≤ 1000000) (ha : ∀ i j, a (ix2 i j) = ((T i j : ℕ) : EReal))

include hT ha

/-- The first result: the counts. -/
theorem counts_at (i j : Fin 64) : k0_pay2 a (ix2 i j) = BitVec.ofNat 32 (T i j) := by
  rw [← word_of_count _ (hT i j), ← ha]
  pointwise [k0_pay2]

omit hT in
/-- The diagonal, as a column. -/
theorem own_at (i : Fin 64) : k0_pay6 a (ix2 i 0) = ((T i i : ℕ) : EReal) := by
  have e : k0_pay6 a (ix2 i 0) = ∑ x : Fin 64, Scalar.select (k0_pay5 (F := Ideal) (ix2 i x)) (a (ix2 i x)) 0 := by pointwise [k0_pay6]
  rw [e]
  simp only [mask_at, masked, ha]
  rw [Finset.sum_ite_eq, if_pos (Finset.mem_univ i)]

omit hT in
/-- The diagonal, as a row. -/
theorem own_row (i : Fin 64) : ∑ x : Fin 64, Scalar.select (k0_pay5 (F := Ideal) (ix2 x i)) (a (ix2 x i)) 0 = ((T i i : ℕ) : EReal) := by
  simp only [mask_at, masked, ha]
  rw [Finset.sum_ite_eq', if_pos (Finset.mem_univ i)]

omit hT in
/-- Row `i` marks the place of class `i` in the order. -/
theorem place_at (i j : Fin 64) : k0_pay7 a (ix2 i j) = if i = sorted (fun k => T k k) j then 1 else 0 := by
  have e : k0_pay7 a (ix2 i j) = if ∑ x : Fin 64, Scalar.select (IntOp.ori (BitVec.ofBool (decide
        (∑ x_1 : Fin 64, Scalar.select (k0_pay5 (F := Ideal) (ix2 x_1 x)) (a (ix2 x_1 x)) (0 : EReal) < k0_pay6 a (ix2 i 0))))
      (IntOp.andi (BitVec.ofBool (decide (∑ x_1 : Fin 64, Scalar.select (k0_pay5 (F := Ideal) (ix2 x_1 x)) (a (ix2 x_1 x)) (0 : EReal) = k0_pay6 a (ix2 i 0))))
        (BitVec.ofBool (decide (k0_pay4 (F := Ideal) (ix2 i x) < k0_pay3 (F := Ideal) (ix2 i x)))))) (1 : EReal) 0 = k0_pay4 (F := Ideal) (ix2 i j) then 1 else 0 := by
    pointwise [k0_pay7]
  rw [e]
  simp only [own_row a T ha, own_at a T ha, row_number, column_number, Nat.cast_lt, Nat.cast_inj]
  have hb : ∀ x : Fin 64, Scalar.select (IntOp.ori (BitVec.ofBool (decide (T x x < T i i)))
      (IntOp.andi (BitVec.ofBool (decide (T x x = T i i))) (BitVec.ofBool (decide (x.val < i.val))))) (1 : EReal) 0
        = if Before (fun k => T k k) x i then 1 else 0 := by
    intro x
    unfold Before
    by_cases h1 : T x x < T i i <;> by_cases h2 : T x x = T i i <;> by_cases h3 : x < i <;> simp [h1, h2, h3, Scalar.select, IntOp.ori, IntOp.andi]
  simp only [hb]
  rw [Finset.sum_boole]
  refine if_congr ?_ rfl rfl
  rw [← rank_eq_iff, rank, Nat.cast_inj]

/-- The second result: the classes in order. -/
theorem keys_at (q : Fin 64) : k0_pay1 (k0_pay9 a) (ix2 0 q) = BitVec.ofNat 32 (sorted (fun k => T k k) q).val := by
  have e : k0_pay1 (k0_pay9 a) (ix2 0 q) = FloatOps.fptosi (F := Ideal) (φ := .f32) 32 (∑ x : Fin 64, k0_pay7 a (ix2 x q) * k0_pay3 (F := Ideal) (ix2 x q)) := by
    pointwise [k0_pay1, k0_pay9]
  rw [e]
  simp only [place_at a T ha, row_number, ite_mul, one_mul, zero_mul]
  rw [Finset.sum_ite_eq', if_pos (Finset.mem_univ _)]
  exact word_of_count _ (by have := (sorted (fun k => T k k) q).isLt; omega)

/-- The third: their own counts. -/
theorem vals_at (q : Fin 64) : k0_pay8 a (ix2 0 q)
    = BitVec.ofNat 32 (T (sorted (fun k => T k k) q) (sorted (fun k => T k k) q)) := by
  have e : k0_pay8 a (ix2 0 q) = FloatOps.fptosi (F := Ideal) (φ := .f32) 32 (∑ x : Fin 64, k0_pay7 a (ix2 x q) * k0_pay6 a (ix2 x 0)) := by
    pointwise [k0_pay8]
  rw [e]
  simp only [place_at a T ha, own_at a T ha, ite_mul, one_mul, zero_mul]
  rw [Finset.sum_ite_eq', if_pos (Finset.mem_univ _)]
  exact word_of_count _ (hT _ _)

end Cert.Outputs
-- ==== Proof.Label.lean ====
/-
  The reference's label of a sample is the winning position of its scores: of the pairs (score, position) the reduction
  keeps the one with the greater score, and of equal scores the one with the lower position.
-/
module

public import proofs.«01_k».proof.Proof.ReferenceRun
public import proofs.«01_k».proof.Proof.Tally
public import Idealize.ShloMosaic.PureOps.Ideal.Laws
public import Idealize.ShloMosaic.Lib.Pointwise

@[expose] public section

set_option maxRecDepth 16384

noncomputable section

namespace Cert.Label

open Cert.ReferenceIdeal Cert.ReferenceIdeal.Gen Cert.Tally
open Idealize.ShloMosaic

/-- A pair comes strictly before another: a greater score, or the same at a lower position. -/
def Beats (a b : EReal × BitVec 32) : Prop := b.1 < a.1 ∨ (a.1 = b.1 ∧ a.2.toInt < b.2.toInt)

/-- A pair comes no later than another. -/
def AtLeast (a b : EReal × BitVec 32) : Prop := b.1 < a.1 ∨ (a.1 = b.1 ∧ a.2.toInt ≤ b.2.toInt)

theorem AtLeast.refl (a : EReal × BitVec 32) : AtLeast a a := Or.inr ⟨rfl, le_rfl⟩

theorem AtLeast.trans {a b c : EReal × BitVec 32} (h : AtLeast a b) (k : AtLeast b c) : AtLeast a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

theorem Beats.atLeast {a b : EReal × BitVec 32} (h : Beats a b) : AtLeast a b :=
  h.imp id fun h => ⟨h.1, h.2.le⟩

theorem atLeast_of_not_beats {a b : EReal × BitVec 32} (h : ¬ Beats a b) : AtLeast b a := by
  unfold Beats at h
  push Not at h
  rcases lt_or_eq_of_le h.1 with e | e
  · exact Or.inl e
  · exact Or.inr ⟨e.symm, h.2 e⟩

/-- One step of the reduction keeps the earlier of two pairs. -/
theorem reducer_eq (a b : EReal × BitVec 32) :
    (reducer_argmax_f32_i32 (F := Ideal) a b : EReal × BitVec 32) = open Classical in if Beats a b then a else b := by
  classical
  obtain ⟨a1, a2⟩ := a
  obtain ⟨b1, b2⟩ := b
  have hs : ∀ u v : BitVec 32, IntOp.cmpi .slt u v = BitVec.ofBool (decide (u.toInt < v.toInt)) := fun u v => by
    simp [IntOp.cmpi, BitVec.slt]
  have hc : ∀ (p : CmpFPredicate) (u v : EReal), FloatOps.cmpf (F := Ideal) (φ := .f32) p u v = Ideal.cmp p u v := fun _ _ _ => rfl
  simp only [reducer_argmax_f32_i32, hc, Ideal.cmp, hs, Beats]
  rcases lt_trichotomy a1 b1 with h | h | h
  · simp [h, h.ne, h.not_gt, Scalar.select, IntOp.ori, IntOp.andi]
  · subst h
    by_cases h2 : a2.toInt < b2.toInt <;> simp [h2, Scalar.select, IntOp.ori, IntOp.andi]
  · simp [h, h.ne', Scalar.select, IntOp.ori, IntOp.andi]

/-- The reduction of a list is one of its pairs, or the initial one, and comes no later than any. -/
theorem foldl_best (L : List (EReal × BitVec 32)) : ∀ a : EReal × BitVec 32,
    (L.foldl (reducer_argmax_f32_i32 (F := Ideal)) a = a ∨ L.foldl (reducer_argmax_f32_i32 (F := Ideal)) a ∈ L)
      ∧ AtLeast (L.foldl (reducer_argmax_f32_i32 (F := Ideal)) a) a
      ∧ ∀ b ∈ L, AtLeast (L.foldl (reducer_argmax_f32_i32 (F := Ideal)) a) b := by
  induction L with
  | nil => exact fun a => ⟨Or.inl rfl, AtLeast.refl a, fun b hb => absurd hb List.not_mem_nil⟩
  | cons c L ih =>
    intro a
    obtain ⟨hm, ha, hall⟩ := ih (reducer_argmax_f32_i32 (F := Ideal) a c)
    rw [List.foldl_cons]
    have hac : AtLeast (reducer_argmax_f32_i32 (F := Ideal) a c) a ∧ AtLeast (reducer_argmax_f32_i32 (F := Ideal) a c) c
        ∧ (reducer_argmax_f32_i32 (F := Ideal) a c = a ∨ reducer_argmax_f32_i32 (F := Ideal) a c = c) := by
      have e := reducer_eq a c
      by_cases h : Beats a c
      · rw [if_pos h] at e
        rw [e]
        exact ⟨AtLeast.refl a, h.atLeast, Or.inl rfl⟩
      · rw [if_neg h] at e
        rw [e]
        exact ⟨atLeast_of_not_beats h, AtLeast.refl c, Or.inr rfl⟩
    refine ⟨?_, ha.trans hac.1, fun b hb => ?_⟩
    · rcases hm with h | h
      · rcases hac.2.2 with k | k
        · exact Or.inl (h.trans k)
        · exact Or.inr (List.mem_cons.mpr (Or.inl (h.trans k)))
      · exact Or.inr (List.mem_cons_of_mem c h)
    · rcases List.mem_cons.mp hb with rfl | hb
      · exact ha.trans hac.2.1
      · exact hall b hb

theorem toInt_class (k : Fin 64) : (BitVec.ofNat 32 k.val).toInt = k.val := by
  have := k.isLt
  rw [BitVec.toInt_ofNat']
  unfold Int.bmod
  norm_num
  omega

/-- A reduction of the pairs `(p k, k)`, in any order, from `(⊥, 0)` ends at the winner's position. -/
theorem foldl_winner (p : Fin 64 → EReal) (L : List (EReal × BitVec 32))
    (hL : ∀ b, b ∈ L ↔ ∃ k : Fin 64, b = (p k, BitVec.ofNat 32 k.val)) {j : Fin 64} (hj : Wins p j) :
    (L.foldl (reducer_argmax_f32_i32 (F := Ideal)) (⊥, 0#32)).2 = BitVec.ofNat 32 j.val := by
  obtain ⟨hm, -, hall⟩ := foldl_best L (⊥, 0#32)
  generalize L.foldl (reducer_argmax_f32_i32 (F := Ideal)) (⊥, 0#32) = r at hm hall
  have wins_of : ∀ i : Fin 64, r = (p i, BitVec.ofNat 32 i.val) → Wins p i := fun i e => by
    have hk : ∀ k : Fin 64, p k < p i ∨ (p i = p k ∧ i ≤ k) := fun k => by
      have h := hall _ ((hL _).mpr ⟨k, rfl⟩)
      rw [e] at h
      refine h.imp id fun h => ⟨h.1, ?_⟩
      have h2 := h.2
      simp only [toInt_class] at h2
      exact Fin.le_def.mpr (by exact_mod_cast h2)
    refine ⟨fun k => (hk k).elim le_of_lt fun h => h.1.symm.le, fun k hlt => (hk k).elim id fun h => absurd h.2 (not_le.mpr hlt)⟩
  rcases hm with h | h
  · have h0 : AtLeast r (p 0, BitVec.ofNat 32 (0 : Fin 64).val) := hall _ ((hL _).mpr ⟨0, rfl⟩)
    have hp0 : p 0 = ⊥ := by
      rw [h] at h0
      rcases h0 with h0 | h0
      · exact absurd h0 not_lt_bot
      · exact h0.1.symm
    have e : r = (p 0, BitVec.ofNat 32 (0 : Fin 64).val) := by rw [h, hp0]; rfl
    rw [e, wins_unique hj (wins_of 0 e)]
  · obtain ⟨i, e⟩ := (hL _).mp h
    rw [e, wins_unique hj (wins_of i e)]

/-- The pairs reduced for a row are its own. -/
theorem mem_fiber {n0 : ℕ} (x : (⟨2, ![n0, 64]⟩ : Shape).Idx → EReal) (h : (⟨2, ![n0, 64]⟩ : Shape).ReducesTo [1] ⟨1, ![n0]⟩)
    (n : Fin n0) (b : EReal × BitVec 32) :
    b ∈ Host.argReduceFiber x (iotaInDim (⟨2, ![n0, 64]⟩ : Shape) 32 1) h (ix1 n)
      ↔ ∃ k : Fin 64, b = (x (ix2 n k), BitVec.ofNat 32 k.val) := by
  unfold Host.argReduceFiber
  simp only [List.mem_map, List.mem_filter, List.mem_finRange, true_and, decide_eq_true_eq]
  constructor
  · rintro ⟨a, ha, rfl⟩
    obtain ⟨k, hk⟩ := (h.fiber_r2_a1 (ix1 n) _).mp ha
    exact ⟨k, by rw [← hk]; rfl⟩
  · rintro ⟨k, rfl⟩
    refine ⟨(⟨2, ![n0, 64]⟩ : Shape).rowMajor (ix2 n k), ?_, ?_⟩
    · rw [Equiv.symm_apply_apply]
      exact (h.fiber_r2_a1 (ix1 n) _).mpr ⟨k, rfl⟩
    · rw [Equiv.symm_apply_apply]; rfl

theorem neg_inf : Ideal.ofBits .f32 0xFF800000#32 = ⊥ := by simp [Ideal.ofBits, Ideal.ieee]

/-- Of a table of scores with `n0` rows: the reduction's second value at a row is the winner's position. -/
theorem row_label {n0 : ℕ} (x : (⟨2, ![n0, 64]⟩ : Shape).Idx → EReal)
    (h : (⟨2, ![n0, 64]⟩ : Shape).ReducesTo [1] ⟨1, ![n0]⟩) (n : Fin n0) (j : Fin 64) (hj : Wins (fun k => x (ix2 n k)) j) :
    (Host.argReduce (F := Ideal) (φ := .f32) reducer_argmax_f32_i32 x (iotaInDim (⟨2, ![n0, 64]⟩ : Shape) 32 1)
      (constant S_ .f32 0xFF800000#32) (constantI S_ 32 0#32) h h_S_ (ix1 n)).2 = BitVec.ofNat 32 j.val := by
  rw [Ideal.argReduce_eq_reduce2, Host.reduce2_eq_foldl_fiber]
  have hb : (constant (F := Ideal) S_ .f32 0xFF800000#32 (Shape.Idx.first h_S_) : EReal) = ⊥ := neg_inf
  rw [hb]
  exact foldl_winner (fun k => x (ix2 n k)) _ (mem_fiber x h n) hj

/-- What the labels are, as one function of the scores. -/
theorem label_def : @ReferenceRun.label Ideal _ = fun x j =>
    (Host.argReduce reducer_argmax_f32_i32 x (iotaInDim S1000000x64 32 1) (constant S_ .f32 0xFF800000#32) (constantI S_ 32 0#32)
      reducesTo_S1000000x64_S1000000_d1 h_S_ j).2 := rfl

/-- The label of sample `n` is the position that wins among its scores. -/
theorem label_at (x : FVec Ideal S1000000x64 .f32) (n : Fin 1000000) (j : Fin 64) (hj : Wins (fun k => x (ix2 n k)) j) :
    ReferenceRun.label x (ix1 n) = BitVec.ofNat 32 j.val :=
  (congrFun (congrFun label_def x) (ix1 n)).trans (row_label (n0 := 1000000) x reducesTo_S1000000x64_S1000000_d1 n j hj)

end Cert.Label
-- ==== Proof.Bins.lean ====
/-
  The reference's histogram counts hits: a sample is counted in bin `64 i + j` exactly when its target is `i` and its
  label `j`, a scatter of ones leaves in each bin the number of samples put there, and the table's entry `(i, j)` is that
  bin.
-/
module

public import proofs.«01_k».proof.Proof.Label
public import Idealize.ShloMosaic.Lib.Routing.Ops
public import Idealize.ShloMosaic.Lib.Routing.OpsPair

@[expose] public section

set_option maxRecDepth 16384

noncomputable section

namespace Cert.Bins

open Cert.ReferenceIdeal Cert.ReferenceIdeal.Gen Cert.Tally
open Idealize.ShloMosaic

/-! ## A scatter of ones -/

/-- Where update `i` of a scatter of `N` scalars into `M` entries lands: at the entry its index word, read signed, names. -/
theorem lands_iff {M N : ℕ} (d : ScatterDims (⟨1, ![M]⟩ : Shape) (⟨2, ![N, 1]⟩ : Shape) (⟨1, ![N]⟩ : Shape)) (hi : d.insertedWindowDims = [0])
    (hs : d.scatterDimsToOperandDims = [0]) (hv : d.indexVectorDim = 1) (idx : IVec (⟨2, ![N, 1]⟩ : Shape) 32) (i : Fin N) (e : Fin M) :
    d.resultIdx? (ix1 i) idx = some (ix1 e) ↔ (idx (ix2 i 0)).toInt = (e.val : ℤ) := by
  have hmem : (0 : Fin 1) ∈ d.scatterDimsToOperandDims := by rw [hs]; simp
  have hw : d.window (ix1 i) 0 = 0 := by
    unfold ScatterDims.window
    refine dif_neg fun h => ?_
    have hnot := of_decide_eq_true (List.mem_filter.mp h).2
    rw [hi] at hnot
    exact hnot (List.mem_singleton.mpr rfl)
  have hat : d.siIdx (ix1 i) ⟨d.scatterDimsToOperandDims.idxOf 0, List.idxOf_lt_length_iff.mpr hmem⟩ = ix2 i 0 := by
    funext b
    match b with
    | ⟨0, _⟩ =>
      refine Fin.ext ?_
      unfold ScatterDims.siIdx
      rw [dif_neg (by rw [hv]; exact Nat.zero_ne_one)]
      unfold ScatterDims.siCoord
      have only : ∀ a : Fin 1, ((ix1 i : (⟨1, ![N]⟩ : Shape).Idx) a).val = i.val := fun a => by rw [Subsingleton.elim a 0]; rfl
      exact only _
    | ⟨1, h1⟩ =>
      refine Fin.ext ?_
      have l1 : ∀ a : Fin 1, a.val = 0 := fun a => by omega
      exact (l1 (d.siIdx (ix1 i) ⟨d.scatterDimsToOperandDims.idxOf 0, List.idxOf_lt_length_iff.mpr hmem⟩ ⟨1, h1⟩)).trans rfl
  have hst : d.start (ix1 i) idx 0 = (idx (ix2 i 0)).toInt := by
    unfold ScatterDims.start
    rw [dif_pos hmem, hat]
  refine (Routing.resultIdx?_ix1 d (ix1 i) idx e).trans ?_
  rw [hst, hw]
  simp

/-- Adding one at each position that satisfies `P`. -/
theorem foldl_ones {ι : Type} (P : ι → Prop) [DecidablePred P] (l : List ι) : ∀ a : BitVec 32,
    l.foldl (fun a n => if P n then IntOp.addi a 1#32 else a) a = a + BitVec.ofNat 32 (l.countP fun n => decide (P n)) := by
  induction l with
  | nil => intro a; simp
  | cons c l ih =>
    intro a
    rw [List.foldl_cons, ih, List.countP_cons]
    by_cases h : P c
    · simp only [h, if_true, decide_true, IntOp.addi]
      rw [BitVec.add_assoc, ← BitVec.ofNat_add, Nat.add_comm]
    · simp [h]

theorem countP_finRange {K : ℕ} (P : Fin K → Prop) [DecidablePred P] :
    (List.finRange K).countP (fun n => decide (P n)) = (Finset.univ.filter P).card := by
  rw [List.countP_eq_length_filter]; rfl

theorem card_cast {K N : ℕ} (h : K = N) (P : Fin N → Prop) [DecidablePred P] :
    (Finset.univ.filter fun n : Fin K => P (n.cast h)).card = (Finset.univ.filter P).card := by
  subst h; rfl

/-- A scatter of ones into zeros leaves in each entry the number of the index words that name it. -/
theorem scatter_ones {M N : ℕ} (d : ScatterDims (⟨1, ![M]⟩ : Shape) (⟨2, ![N, 1]⟩ : Shape) (⟨1, ![N]⟩ : Shape)) (hi : d.insertedWindowDims = [0])
    (hs : d.scatterDimsToOperandDims = [0]) (hv : d.indexVectorDim = 1) (x0 : IVec (⟨1, ![M]⟩ : Shape) 32) (hx0 : ∀ i, x0 i = 0#32)
    (idx : IVec (⟨2, ![N, 1]⟩ : Shape) 32) (upd : IVec (⟨1, ![N]⟩ : Shape) 32) (hu : ∀ i, upd i = 1#32)
    (f : Fin N → BitVec 32) (hf : ∀ n, idx (ix2 n 0) = f n) (e : Fin M) :
    Host.scatter d IntOp.addi x0 idx upd (ix1 e)
      = BitVec.ofNat 32 (Finset.univ.filter fun n : Fin N => (f n).toInt = (e.val : ℤ)).card := by
  rw [Routing.scatter_at, hx0]
  have hstep : (fun (a : BitVec 32) (n : Fin (⟨1, ![N]⟩ : Shape).numel) =>
        if d.resultIdx? ((⟨1, ![N]⟩ : Shape).rowMajor.symm n) idx = some (ix1 e) then IntOp.addi a (upd ((⟨1, ![N]⟩ : Shape).rowMajor.symm n)) else a)
      = fun a n => if (f (n.cast (Routing.numel1 N))).toInt = (e.val : ℤ) then IntOp.addi a 1#32 else a := by
    funext a n
    have hn : (⟨1, ![N]⟩ : Shape).rowMajor.symm n = ix1 (n.cast (Routing.numel1 N)) := Routing.symm1 n
    rw [hn, hu]
    exact if_congr ((lands_iff d hi hs hv idx _ e).trans (by rw [hf])) rfl rfl
  rw [hstep, foldl_ones, countP_finRange, card_cast (Routing.numel1 N) (fun n : Fin N => (f n).toInt = (e.val : ℤ)),
    BitVec.zero_add]

/-! ## The bins -/

/-- The bin a sample is counted in, from its target and its label. -/
def placeOf (t l : BitVec 32) : BitVec 32 :=
  let b := Scalar.select (IntOp.andi (IntOp.cmpi .sge t 0#32) (IntOp.cmpi .slt t 64#32)) (IntOp.addi (IntOp.muli 64#32 t) l) 4096#32
  let u := IntOp.maxsi 0#32 b
  Scalar.select (IntOp.cmpi .slt u 0#32) (IntOp.addi u 4097#32) u

theorem place_at (y l : IVec S1000000 32) (n : S1000000.Idx) :
    ReferenceRun.place (ReferenceRun.bin y l) n = placeOf (y n) (l n) := rfl

/-- A target that is a class and a label name the bin `64 i + j` … -/
theorem placeOf_class : ∀ i j : Fin 64, (placeOf (BitVec.ofNat 32 i.val) (BitVec.ofNat 32 j.val)).toInt = 64 * i.val + j.val := by
  decide +kernel

theorem placeOf_overflow : (let u := IntOp.maxsi 0#32 4096#32; Scalar.select (IntOp.cmpi .slt u 0#32) (IntOp.addi u 4097#32) u).toInt = 4096 := by
  decide +kernel

/-- … and a target that is no class the overflow bin. -/
theorem placeOf_other (t l : BitVec 32) (h : ¬ (0 ≤ t.toInt ∧ t.toInt < 64)) : (placeOf t l).toInt = 4096 := by
  have hc : IntOp.andi (IntOp.cmpi .sge t 0#32) (IntOp.cmpi .slt t 64#32) = 0#1 := by
    have h0 : (0#32 : BitVec 32).toInt = 0 := by decide
    have h64 : (64#32 : BitVec 32).toInt = 64 := by decide
    by_cases h1 : 0 ≤ t.toInt
    · have h2 : ¬ t.toInt < 64 := fun h2 => h ⟨h1, h2⟩
      simp [IntOp.cmpi, IntOp.andi, BitVec.slt, h64, h2]
    · simp [IntOp.cmpi, IntOp.andi, BitVec.sle, h0, h1]
  unfold placeOf
  rw [hc]
  exact placeOf_overflow

theorem placeOf_iff (t : BitVec 32) (k i j : Fin 64) :
    (placeOf t (BitVec.ofNat 32 k.val)).toInt = ((64 * i.val + j.val : ℕ) : ℤ) ↔ t.toInt = i.val ∧ k = j := by
  have hi := i.isLt; have hj := j.isLt; have hk := k.isLt
  by_cases h : 0 ≤ t.toInt ∧ t.toInt < 64
  · obtain ⟨a, ha⟩ : ∃ a : Fin 64, t.toInt = a.val := ⟨⟨t.toInt.toNat, by omega⟩, by simp [h.1]⟩
    have ht : t = BitVec.ofNat 32 a.val := by
      apply BitVec.eq_of_toInt_eq
      rw [ha, Label.toInt_class]
    rw [ha, ht, placeOf_class]
    have hl := a.isLt
    rw [Fin.ext_iff]
    omega
  · rw [placeOf_other t _ h]
    constructor
    · intro e; omega
    · intro e; omega

/-! ## The histogram -/

theorem counts_at (p : IVec S1000000 32) (e : Fin 4097) :
    ReferenceRun.counts p (ix1 e) = BitVec.ofNat 32 (Finset.univ.filter fun n : Fin 1000000 => (p (ix1 n)).toInt = (e.val : ℤ)).card := by
  unfold ReferenceRun.counts
  apply scatter_ones scatter_S4097_S1000000x1_S1000000_n_0_0_1 rfl rfl rfl
  · exact fun _ => rfl
  · exact fun _ => rfl
  · intro n
    pointwise

theorem table_at (k : IVec S4097 32) (i j : Fin 64) (h : 64 * i.val + j.val < 4097) :
    ReferenceRun.table k (ix2 i j) = k (ix1 ⟨64 * i.val + j.val, h⟩) := by
  pointwise [ReferenceRun.table]
  exact congrArg k (by simp only [Nat.mul_comm])

/-- The histogram's entry `(i, j)` is the tally. -/
theorem hist_at (x : FVec Ideal S1000000x64 .f32) (y : IVec S1000000 32) (i j : Fin 64) :
    ReferenceRun.hist x y (ix2 i j) = BitVec.ofNat 32 (tally (fun n k => x (ix2 n k)) (fun n => y (ix1 n)) i j) := by
  classical
  unfold ReferenceRun.hist
  rw [table_at _ i j (by omega), counts_at]
  refine congrArg (BitVec.ofNat 32) (congrArg Finset.card (Finset.filter_congr fun n _ => ?_))
  obtain ⟨k, hk⟩ := exists_wins (fun k => x (ix2 n k))
  rw [place_at, Label.label_at x n k hk]
  refine (placeOf_iff _ k i j).trans (and_congr_right fun _ => ⟨fun e => e ▸ hk, fun e => wins_unique hk e⟩)

end Cert.Bins
-- ==== Proof.Order.lean ====
/-
  The reference's second and third results: the diagonal of a histogram, the classes in ascending order of it, and the
  diagonal in that order.
-/
module

public import proofs.«01_k».proof.Proof.ReferenceRun
public import proofs.«01_k».proof.Proof.Ranking
public import Idealize.ShloMosaic.Lib.Pointwise
public import Idealize.ShloMosaic.Lib.Routing.OpsSet
public import Idealize.ShloMosaic.Lib.Pipeline.Value

@[expose] public section

set_option maxRecDepth 16384

noncomputable section

namespace Cert.Order

open Cert.ReferenceIdeal Cert.ReferenceIdeal.Gen Cert.Ranking
open Idealize.ShloMosaic

/-! ## Indices -/

/-- A class number is not negative, so wrapping leaves it. -/
theorem wrap_class (k : Fin 64) :
    Scalar.select (IntOp.cmpi .slt (BitVec.ofNat 32 k.val) 0#32) (IntOp.addi (BitVec.ofNat 32 k.val) 64#32) (BitVec.ofNat 32 k.val)
      = BitVec.ofNat 32 k.val := by
  revert k; decide +kernel

theorem wrap_at (o : IVec S64 32) (q k : Fin 64) (h : o (ix1 q) = BitVec.ofNat 32 k.val) :
    ReferenceRun.wrap o (ix1 q) = BitVec.ofNat 32 k.val := by
  rw [← wrap_class k, ← h]
  rfl

/-- A vector as a one-column table. -/
theorem column_at (o : IVec S64 32) (q : Fin 64) :
    broadcastInDim S64x1 ![0] bcast_S64_S64x1_0 o (ix2 q 0) = o (ix1 q) := by
  pointwise

/-! ## The diagonal -/

/-- Both coordinates of place `p` are read from the indices' row `p`. -/
theorem gather_pair_at (h : IVec S64x64 32) (idx : IVec S64x2 32) (p : Fin 64)
    (h0 : idx (ix2 p 0) = BitVec.ofNat 32 p.val) (h1 : idx (ix2 p 1) = BitVec.ofNat 32 p.val) :
    Host.gather gather_S64x64_S64x2_S64_n_01_n_n_01_1_11 h idx (ix1 p) = h (ix2 p p) := by
  have hp := p.isLt
  have hs : min (BitVec.ofNat 32 p.val).toInt.toNat (64 - 1) = p.val := by
    rw [StableHlo.Predicate.toInt_ofNat_small _ (by omega)]; omega
  unfold Host.gather
  refine congrArg h (funext fun a => Fin.ext ?_)
  match a with
  | ⟨0, _⟩ =>
    show GatherDims.start _ (ix1 p) idx 0 + GatherDims.batchCoord _ (ix1 p) 0 + GatherDims.offCoord _ (ix1 p) 0 = p.val
    rw [gather_S64x64_S64x2_S64_n_01_n_n_01_1_11.batchCoord_eq_zero (ix1 p) 0 (by decide), gather_S64x64_S64x2_S64_n_01_n_n_01_1_11.offCoord_eq_zero (ix1 p) 0 (by decide)]
    unfold GatherDims.start
    rw [dif_pos (List.mem_of_elem_eq_true rfl)]
    show min (idx (GatherDims.siIdx gather_S64x64_S64x2_S64_n_01_n_n_01_1_11 (ix1 p) ⟨0, by decide⟩)).toInt.toNat (64 - 1) = p.val
    rw [show GatherDims.siIdx gather_S64x64_S64x2_S64_n_01_n_n_01_1_11 (ix1 p) ⟨0, _⟩ = ix2 p 0 from
      funext fun b => Fin.ext (match b with | ⟨0, _⟩ => rfl | ⟨1, _⟩ => rfl), h0]
    exact hs
  | ⟨1, _⟩ =>
    show GatherDims.start _ (ix1 p) idx 1 + GatherDims.batchCoord _ (ix1 p) 1 + GatherDims.offCoord _ (ix1 p) 1 = p.val
    rw [gather_S64x64_S64x2_S64_n_01_n_n_01_1_11.batchCoord_eq_zero (ix1 p) 1 (by decide), gather_S64x64_S64x2_S64_n_01_n_n_01_1_11.offCoord_eq_zero (ix1 p) 1 (by decide)]
    unfold GatherDims.start
    rw [dif_pos (List.mem_of_elem_eq_true rfl)]
    show min (idx (GatherDims.siIdx gather_S64x64_S64x2_S64_n_01_n_n_01_1_11 (ix1 p) ⟨1, by decide⟩)).toInt.toNat (64 - 1) = p.val
    rw [show GatherDims.siIdx gather_S64x64_S64x2_S64_n_01_n_n_01_1_11 (ix1 p) ⟨1, _⟩ = ix2 p 1 from
      funext fun b => Fin.ext (match b with | ⟨0, _⟩ => rfl | ⟨1, _⟩ => rfl), h1]
    exact hs

theorem diagonal_at (h : IVec S64x64 32) (p : Fin 64) : ReferenceRun.diagonal h (ix1 p) = h (ix2 p p) := by
  have hw : ReferenceRun.wrap (iotaInDim S64 32 0) (ix1 p) = BitVec.ofNat 32 p.val := wrap_at _ p p rfl
  refine gather_pair_at h _ p ?_ ?_
  · refine (concatenate_pair_apply_left (t := S64x2) (s₁ := S64x1) (s₂ := S64x1) 1 _ _ _ _ rfl (ix2 p 0)
      (fun b => match b with | ⟨0, _⟩ => rfl | ⟨1, _⟩ => rfl)).trans ((column_at _ p).trans hw)
  · refine (concatenate_pair_apply_right (t := S64x2) (s₁ := S64x1) (s₂ := S64x1) 1 _ _ _ _ rfl rfl (ix2 p 0)
      (fun b hb => match b with | ⟨0, _⟩ => rfl | ⟨1, _⟩ => absurd rfl hb) rfl).trans ((column_at _ p).trans hw)

/-! ## The order -/

/-- The sort's comparator, on counts told as words. -/
theorem compare_counts (a b : ℕ) (ha : a ≤ 1000000) (hb : b ≤ 1000000) (u v : BitVec 32) :
    (comparator_i32_i32_d0 (BitVec.ofNat 32 a, u) (BitVec.ofNat 32 b, v) == 1#1) = decide (a < b) := by
  have e : (BitVec.ofNat 32 a).slt (BitVec.ofNat 32 b) = decide (a < b) := by
    rw [BitVec.slt, StableHlo.Predicate.toInt_ofNat_small _ (by omega), StableHlo.Predicate.toInt_ofNat_small _ (by omega)]
    simp
  simp only [comparator_i32_i32_d0, IntOp.cmpi]
  rw [e]
  by_cases h : a < b <;> simp [h]

theorem order_def (d : IVec S64 32) (q : Fin 64) : ReferenceRun.order d (ix1 q)
    = BitVec.ofNat 32 (sortedFrom (fun k k' => comparator_i32_i32_d0 (d (ix1 k), BitVec.ofNat 32 k.val) (d (ix1 k'), BitVec.ofNat 32 k'.val) == 1#1) q).val := by
  have e : ∀ k : Fin 64, Shape.Idx.ofFin k = ix1 k := fun k => funext fun a => match a with | ⟨0, _⟩ => rfl
  unfold ReferenceRun.order Host.sort2
  simp [iotaInDim, e]

theorem order_at (d : IVec S64 32) (D : Fin 64 → ℕ) (hD : ∀ k, D k ≤ 1000000) (hd : ∀ k, d (ix1 k) = BitVec.ofNat 32 (D k)) (q : Fin 64) :
    ReferenceRun.order d (ix1 q) = BitVec.ofNat 32 (sorted D q).val := by
  rw [order_def, sorted]
  simp only [hd, compare_counts _ _ (hD _) (hD _)]

theorem ordered_at (d o : IVec S64 32) (q k : Fin 64) (ho : o (ix1 q) = BitVec.ofNat 32 k.val) :
    ReferenceRun.ordered d o (ix1 q) = d (ix1 k) := by
  refine Routing.gather_take1 _ rfl rfl rfl rfl d _ q k ?_ (by norm_num)
  exact (column_at _ q).trans (wrap_at o q k ho)

end Cert.Order
-- ==== Proof.Agree.lean ====
/-
  The kernel's three results are the reference's: both histograms are the tally, and both orders are the stable
  ascending sort of its diagonal.
-/
module

public import proofs.«01_k».proof.Proof.KernelResults
public import proofs.«01_k».proof.Proof.Accumulated
public import proofs.«01_k».proof.Proof.Outputs
public import proofs.«01_k».proof.Proof.Bins
public import proofs.«01_k».proof.Proof.Order

@[expose] public section

set_option maxRecDepth 16384

noncomputable section

namespace Cert.Agree

open Cert.KernelIdeal Cert.KernelIdeal.Gen Cert.Tally Cert.Ranking Cert.KernelResults
open Idealize.ShloMosaic Idealize.ShloMosaic.TcCoe

variable (m : (ℓ : Loc nD τ sig) → Buf (Elt Ideal) ℓ) (c : Dev nD)

/-- The scores and targets as launched. -/
def xs : Vec Ideal S1000000x64 .f32 := m ((c : Thread nD τ).loc main_arg0)
def ys : Vec Ideal S1000000 .i32 := m ((c : Thread nD τ).loc main_arg1)

/-- The tally of them. -/
def T (i j : Fin 64) : ℕ := tally (Accumulated.x m c) (Accumulated.y m c) i j

theorem T_le (i j : Fin 64) : T m c i j ≤ 1000000 := tally_le _ _ _ _

/-- The kernel's accumulator at the end, and the reference's histogram, both hold it. -/
theorem final_at (i j : Fin 64) : final m c (ix2 i j) = ((T m c i j : ℕ) : EReal) := Accumulated.accAt_last m c _ i j

theorem hist_at (i j : Fin 64) : ReferenceRun.hist (F := Ideal) (xs m c) (ys m c) (ix2 i j) = BitVec.ofNat 32 (T m c i j) :=
  Bins.hist_at (xs m c) (ys m c) i j

theorem counts_eq : k0_pay2 (final m c) = ReferenceRun.hist (F := Ideal) (xs m c) (ys m c) := funext fun q => by
  rw [ValueIdx.eq_ix2 q]
  exact (Outputs.counts_at _ (T m c) (T_le m c) (final_at m c) _ _).trans (hist_at m c _ _).symm

/-- The reference's diagonal. -/
theorem diagonal_at (k : Fin 64) :
    ReferenceRun.diagonal (ReferenceRun.hist (F := Ideal) (xs m c) (ys m c)) (ix1 k) = BitVec.ofNat 32 (T m c k k) :=
  (Order.diagonal_at _ k).trans (hist_at m c k k)

theorem order_at (q : Fin 64) : ReferenceRun.order (ReferenceRun.diagonal (ReferenceRun.hist (F := Ideal) (xs m c) (ys m c))) (ix1 q)
    = BitVec.ofNat 32 (sorted (fun k => T m c k k) q).val :=
  Order.order_at _ (fun k => T m c k k) (fun k => T_le m c k k) (diagonal_at m c) q

/-- A one-row table as a vector. -/
theorem row_at (v : IVec S1x64 32) (q : Fin 64) : shapeCast S64 v shapeCasts_S1x64_S64 (ix1 q) = v (ix2 0 q) := by
  pointwise

theorem keys_eq : shapeCast S64 (k0_pay1 (k0_pay9 (final m c))) shapeCasts_S1x64_S64
    = ReferenceRun.order (ReferenceRun.diagonal (ReferenceRun.hist (F := Ideal) (xs m c) (ys m c))) := funext fun q => by
  rw [ValueIdx.eq_ix1 q]
  exact (row_at _ _).trans ((Outputs.keys_at _ (T m c) (T_le m c) (final_at m c) _).trans (order_at m c _).symm)

theorem vals_eq : shapeCast S64 (k0_pay8 (final m c)) shapeCasts_S1x64_S64
    = ReferenceRun.ordered (ReferenceRun.diagonal (ReferenceRun.hist (F := Ideal) (xs m c) (ys m c)))
        (ReferenceRun.order (ReferenceRun.diagonal (ReferenceRun.hist (F := Ideal) (xs m c) (ys m c)))) := funext fun q => by
  rw [ValueIdx.eq_ix1 q]
  exact (row_at _ _).trans ((Outputs.vals_at _ (T m c) (T_le m c) (final_at m c) _).trans
    ((Order.ordered_at _ _ _ _ (order_at m c _)).trans (diagonal_at m c _)).symm)

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.Accumulated
public import proofs.«01_k».proof.Proof.ReferenceRun
public import proofs.«01_k».proof.Proof.Agree
public import Idealize.ShloMosaic.Adequacy
public import Idealize.ShloMosaic.Init

@[expose] public section

noncomputable section

namespace Cert.Proof

open Idealize.ShloMosaic Idealize.SL.Sem Cert.Kernel

/-- From equal arguments the kernel and the reference end with equal results. -/
theorem algebraic : Cert.algebraic_KernelIdeal_ReferenceIdeal := fun m g m' g' _ h =>
  ⟨_, _, _, Cert.KernelResults.results m g (Cert.Accumulated.paddingIgnored m),
    (θ_run _ _ _).mono (fun r hr c => by
      have h0 : m' ((c.tc : Thread Cert.ReferenceIdeal.nD Cert.ReferenceIdeal.τ).loc Cert.ReferenceIdeal.main_arg0) = Cert.Agree.xs m c := (h c).1
      have h1 : m' ((c.tc : Thread Cert.ReferenceIdeal.nD Cert.ReferenceIdeal.τ).loc Cert.ReferenceIdeal.main_arg1) = Cert.Agree.ys m c := (h c).2
      obtain ⟨e0, e1, e2, a0, a1⟩ := hr c
      rw [h0, h1] at e0 e1 e2
      exact ⟨e0.trans (Cert.Agree.counts_eq m c).symm, e1.trans (Cert.Agree.keys_eq m c).symm,
        e2.trans (Cert.Agree.vals_eq m c).symm, a0, a1⟩)
      (Cert.ReferenceRun.results m' g')⟩

theorem claim : Cert.Claim := ⟨Cert.Kernel.Gen.facts, Cert.KernelIdeal.Gen.facts, Cert.ReferenceIdeal.Gen.facts,
  fun m ρ _ => Cert.KernelFrame.frame m ρ,
  fun m ρ _ => Cert.IdealRun.frame m ρ (Cert.Accumulated.paddingIgnored m),
  fun m ρ _ => Cert.ReferenceRun.frame m ρ,
  trivial,
  algebraic⟩

end Cert.Proof

end
